-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_labels_in_range [hPre_scores_finite_labels_in_range : Cert.Pre_scores_finite_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_labels_in_range [hPre_scores_finite_labels_in_range : Cert.Pre_scores_finite_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Original (m : (ℓ : Loc Cert.Original.nD Cert.Original.τ Cert.Original.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_labels_in_range [hKernelIdeal : Cert.KernelIdeal.Facts] [hPre_scores_finite_labels_in_range : Cert.Pre_scores_finite_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_labels_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_labels_in_range [hReferenceIdeal : Cert.ReferenceIdeal.Facts] [hPre_scores_finite_labels_in_range : Cert.Pre_scores_finite_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Original [hOriginal : Cert.Original.Facts] : Prop :=
  ∀ (m : (ℓ : Loc Cert.Original.nD Cert.Original.τ Cert.Original.sig) → Buf (Elt Bits) ℓ) (g : Dev Cert.Original.nD → PrngReg), Pre_Original m →
    θ_run (Cert.Original.defs (F := Bits)) (onTc (τ := Cert.Original.τ) (Cert.Original.main (F := Bits))) ⟨m, fun _ => 0, g⟩ (fun r => (∀ c : Dev Cert.Original.nD,
      r.2.mem ((c.tc : Thread Cert.Original.nD Cert.Original.τ).loc Cert.Original.main_arg0) = m ((c.tc : Thread Cert.Original.nD Cert.Original.τ).loc Cert.Original.main_arg0)
      ∧ r.2.mem ((c.tc : Thread Cert.Original.nD Cert.Original.τ).loc Cert.Original.main_arg1) = m ((c.tc : Thread Cert.Original.nD Cert.Original.τ).loc Cert.Original.main_arg1)
      ∧ r.2.mem ((c.tc : Thread Cert.Original.nD Cert.Original.τ).loc Cert.Original.main_arg2) = m ((c.tc : Thread Cert.Original.nD Cert.Original.τ).loc Cert.Original.main_arg2)
      ∧ r.2.mem ((c.tc : Thread Cert.Original.nD Cert.Original.τ).loc Cert.Original.main_arg3) = m ((c.tc : Thread Cert.Original.nD Cert.Original.τ).loc Cert.Original.main_arg3)
      ∧ r.2.mem ((c.tc : Thread Cert.Original.nD Cert.Original.τ).loc Cert.Original.main_arg4) = m ((c.tc : Thread Cert.Original.nD Cert.Original.τ).loc Cert.Original.main_arg4))
      ∧ r.2.sem = fun _ => 0)

def preserves_Kernel_KernelIdeal : Prop :=
  True

def algebraic_KernelIdeal_ReferenceIdeal_pre_scores_finite_labels_in_range [hKernelIdeal : Cert.KernelIdeal.Facts] [hReferenceIdeal : Cert.ReferenceIdeal.Facts] [hPre_scores_finite_labels_in_range : Cert.Pre_scores_finite_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hOriginal : Cert.Original.Facts) (hPre_scores_finite_labels_in_range : Cert.Pre_scores_finite_labels_in_range.Facts),
    quiescent_Kernel (hKernel := hKernel)
    ∧ quiescent_KernelIdeal (hKernelIdeal := hKernelIdeal)
    ∧ quiescent_KernelIdeal_pre_scores_finite_labels_in_range (hKernelIdeal := hKernelIdeal) (hPre_scores_finite_labels_in_range := hPre_scores_finite_labels_in_range)
    ∧ quiescent_ReferenceIdeal (hReferenceIdeal := hReferenceIdeal)
    ∧ quiescent_ReferenceIdeal_pre_scores_finite_labels_in_range (hReferenceIdeal := hReferenceIdeal) (hPre_scores_finite_labels_in_range := hPre_scores_finite_labels_in_range)
    ∧ quiescent_Original (hOriginal := hOriginal)
    ∧ preserves_Kernel_KernelIdeal
    ∧ algebraic_KernelIdeal_ReferenceIdeal_pre_scores_finite_labels_in_range (hKernelIdeal := hKernelIdeal) (hReferenceIdeal := hReferenceIdeal) (hPre_scores_finite_labels_in_range := hPre_scores_finite_labels_in_range)
-- ==== Pre_scores_finite_labels_in_range.lean ====
abbrev S64x8732x4 : Shape := ⟨3, ![64, 8732, 4]⟩
abbrev S64x8732x81 : Shape := ⟨3, ![64, 8732, 81]⟩
abbrev S64x16x4 : Shape := ⟨3, ![64, 16, 4]⟩
abbrev S64x16 : Shape := ⟨2, ![64, 16]⟩
abbrev S8732x4 : Shape := ⟨2, ![8732, 4]⟩
abbrev S_ : Shape := ⟨0, ![]⟩

class Facts : Prop where
  bcast_S_S64x8732x81 : S_.BroadcastsInDim S64x8732x81 (![] : Fin 0 → Fin S64x8732x81.rank)
  reducesTo_S64x8732x81_S_d0_1_2 : S64x8732x81.ReducesTo [0, 1, 2] S_
  h_S_ : 0 < S_.numel
  bcast_S_S64x16 : S_.BroadcastsInDim S64x16 (![] : Fin 0 → Fin S64x16.rank)
  reducesTo_S64x16_S_d0_1 : S64x16.ReducesTo [0, 1] S_

variable [Facts]

def fn {F : FTy → Type} [FloatOps F] (main_arg0 : FVec F S64x8732x4 .f32) (main_arg1 : FVec F S64x8732x81 .f32) (main_arg2 : FVec F S64x16x4 .f32) (main_arg3 : IVec S64x16 32) (main_arg4 : FVec F S8732x4 .f32) : IVec S_ 1 :=
  let main_v0 : FVec F S64x8732x81 .f32 := Host.absf main_arg1
  let main_cst : FVec F S_ .f32 := constant S_ .f32 0x7F800000#32
  let main_v1 : FVec F S64x8732x81 .f32 := broadcastInDim S64x8732x81 ![] bcast_S_S64x8732x81 main_cst
  let main_v2 : IVec S64x8732x81 1 := cmpf .olt main_v0 main_v1
  let main_c : IVec S_ 1 := constantI S_ 1 1#1
  let main_v3 : IVec S_ 1 := (fun x v => Host.reduce IntOp.andi x v reducesTo_S64x8732x81_S_d0_1_2 h_S_) main_v2 main_c
  let main_c_0 : IVec S_ 32 := constantI S_ 32 0#32
  let main_v4 : IVec S64x16 32 := broadcastInDim S64x16 ![] bcast_S_S64x16 main_c_0
  let main_v5 : IVec S64x16 1 := cmpi .sge main_arg3 main_v4
  let main_c_1 : IVec S_ 32 := constantI S_ 32 81#32
  let main_v6 : IVec S64x16 32 := broadcastInDim S64x16 ![] bcast_S_S64x16 main_c_1
  let main_v7 : IVec S64x16 1 := cmpi .slt main_arg3 main_v6
  let main_v8 : IVec S64x16 1 := andi main_v5 main_v7
  let main_c_2 : IVec S_ 1 := constantI S_ 1 1#1
  let main_v9 : IVec S_ 1 := (fun x v => Host.reduce IntOp.andi x v reducesTo_S64x16_S_d0_1 h_S_) main_v8 main_c_2
  let main_v10 : IVec S_ 1 := andi main_v3 main_v9
  main_v10
-- ==== Kernel.lean ====
abbrev S64x8732x4 : Shape := ⟨3, ![64, 8732, 4]⟩
abbrev S64x8732x81 : Shape := ⟨3, ![64, 8732, 81]⟩
abbrev S64x16x4 : Shape := ⟨3, ![64, 16, 4]⟩
abbrev S64x16 : Shape := ⟨2, ![64, 16]⟩
abbrev S8732x4 : Shape := ⟨2, ![8732, 4]⟩
abbrev S4x8732 : Shape := ⟨2, ![4, 8732]⟩
abbrev S64x4x8732 : Shape := ⟨3, ![64, 4, 8732]⟩
abbrev S64x16x1 : Shape := ⟨3, ![64, 16, 1]⟩
abbrev S64x1x8732 : Shape := ⟨3, ![64, 1, 8732]⟩
abbrev S64x1x8 : Shape := ⟨3, ![64, 1, 8]⟩
abbrev S1x16x4 : Shape := ⟨3, ![1, 16, 4]⟩
abbrev S1x16x1 : Shape := ⟨3, ![1, 16, 1]⟩
abbrev S1x4x8732 : Shape := ⟨3, ![1, 4, 8732]⟩
abbrev S1x1x8732 : Shape := ⟨3, ![1, 1, 8732]⟩
abbrev S1x1x8 : Shape := ⟨3, ![1, 1, 8]⟩
abbrev S16x4 : Shape := ⟨2, ![16, 4]⟩
abbrev S16x1 : Shape := ⟨2, ![16, 1]⟩
abbrev S1x8732 : Shape := ⟨2, ![1, 8732]⟩
abbrev S16x8732 : Shape := ⟨2, ![16, 8732]⟩
abbrev S8732 : Shape := ⟨1, ![8732]⟩
abbrev S16 : Shape := ⟨1, ![16]⟩
abbrev S1 : Shape := ⟨1, ![1]⟩
abbrev S1x1x1 : Shape := ⟨3, ![1, 1, 1]⟩
abbrev S1x1 : Shape := ⟨2, ![1, 1]⟩
abbrev S1x6 : Shape := ⟨2, ![1, 6]⟩
abbrev S1x8 : Shape := ⟨2, ![1, 8]⟩
abbrev S558848x81 : Shape := ⟨2, ![558848, 81]⟩
abbrev S236x1x2368 : Shape := ⟨3, ![236, 1, 2368]⟩
abbrev S236x1x8 : Shape := ⟨3, ![236, 1, 8]⟩
abbrev S2368x81 : Shape := ⟨2, ![2368, 81]⟩
abbrev S1x1x2368 : Shape := ⟨3, ![1, 1, 2368]⟩
abbrev S1x2368 : Shape := ⟨2, ![1, 2368]⟩
abbrev S2368x1 : Shape := ⟨2, ![2368, 1]⟩
abbrev S1x81 : Shape := ⟨2, ![1, 81]⟩
abbrev S1x7 : Shape := ⟨2, ![1, 7]⟩
abbrev S64x8732 : Shape := ⟨2, ![64, 8732]⟩
abbrev S64x8 : Shape := ⟨2, ![64, 8]⟩
abbrev S64x1 : Shape := ⟨2, ![64, 1]⟩
abbrev S64 : Shape := ⟨1, ![64]⟩
abbrev S236x1x1 : Shape := ⟨3, ![236, 1, 1]⟩
abbrev S236x1 : Shape := ⟨2, ![236, 1]⟩
abbrev S1x236x1 : Shape := ⟨3, ![1, 236, 1]⟩
abbrev S1x64x1 : Shape := ⟨3, ![1, 64, 1]⟩
abbrev S_ : Shape := ⟨0, ![]⟩

abbrev nBuf : Space → Nat
  | .hbm => 17
  | .vmem => 23
  | .smem => 0
  | _ => 0

abbrev bufTy : (tb : Table) → Fin (tcTables nBuf tb) → BufTy
  | .hbm, ⟨0, _⟩ => ⟨S64x8732x4, .f32⟩
  | .hbm, ⟨1, _⟩ => ⟨S64x8732x81, .f32⟩
  | .hbm, ⟨2, _⟩ => ⟨S64x16x4, .f32⟩
  | .hbm, ⟨3, _⟩ => ⟨S64x16, .i32⟩
  | .hbm, ⟨4, _⟩ => ⟨S8732x4, .f32⟩
  | .hbm, ⟨5, _⟩ => ⟨S4x8732, .f32⟩
  | .hbm, ⟨6, _⟩ => ⟨S64x4x8732, .f32⟩
  | .hbm, ⟨7, _⟩ => ⟨S64x16x1, .i32⟩
  | .hbm, ⟨8, _⟩ => ⟨S64x1x8732, .i32⟩
  | .hbm, ⟨9, _⟩ => ⟨S64x1x8, .f32⟩
  | .hbm, ⟨10, _⟩ => ⟨S558848x81, .f32⟩
  | .hbm, ⟨11, _⟩ => ⟨S236x1x2368, .i32⟩
  | .hbm, ⟨12, _⟩ => ⟨S236x1x2368, .f32⟩
  | .hbm, ⟨13, _⟩ => ⟨S236x1x8, .f32⟩
  | .hbm, ⟨14, _⟩ => ⟨S64x8732, .f32⟩
  | .hbm, ⟨15, _⟩ => ⟨S1x1, .f32⟩
  | .hbm, ⟨16, _⟩ => ⟨S_, .f32⟩
  | .local _ .vmem, ⟨0, _⟩ => ⟨S1x16x4, .f32⟩
  | .local _ .vmem, ⟨1, _⟩ => ⟨S1x16x4, .f32⟩
  | .local _ .vmem, ⟨2, _⟩ => ⟨S1x16x1, .i32⟩
  | .local _ .vmem, ⟨3, _⟩ => ⟨S1x16x1, .i32⟩
  | .local _ .vmem, ⟨4, _⟩ => ⟨S4x8732, .f32⟩
  | .local _ .vmem, ⟨5, _⟩ => ⟨S1x4x8732, .f32⟩
  | .local _ .vmem, ⟨6, _⟩ => ⟨S1x4x8732, .f32⟩
  | .local _ .vmem, ⟨7, _⟩ => ⟨S1x1x8732, .i32⟩
  | .local _ .vmem, ⟨8, _⟩ => ⟨S1x1x8732, .i32⟩
  | .local _ .vmem, ⟨9, _⟩ => ⟨S1x1x8, .f32⟩
  | .local _ .vmem, ⟨10, _⟩ => ⟨S1x1x8, .f32⟩
  | .local _ .vmem, ⟨11, _⟩ => ⟨S2368x81, .f32⟩
  | .local _ .vmem, ⟨12, _⟩ => ⟨S2368x81, .f32⟩
  | .local _ .vmem, ⟨13, _⟩ => ⟨S1x1x2368, .i32⟩
  | .local _ .vmem, ⟨14, _⟩ => ⟨S1x1x2368, .i32⟩
  | .local _ .vmem, ⟨15, _⟩ => ⟨S1x1x2368, .f32⟩
  | .local _ .vmem, ⟨16, _⟩ => ⟨S1x1x2368, .f32⟩
  | .local _ .vmem, ⟨17, _⟩ => ⟨S1x1x8, .f32⟩
  | .local _ .vmem, ⟨18, _⟩ => ⟨S1x1x8, .f32⟩
  | .local _ .vmem, ⟨19, _⟩ => ⟨S64x8732, .f32⟩
  | .local _ .vmem, ⟨20, _⟩ => ⟨S64x1x8, .f32⟩
  | .local _ .vmem, ⟨21, _⟩ => ⟨S236x1x8, .f32⟩
  | .local _ .vmem, ⟨22, _⟩ => ⟨S1x1, .f32⟩
  | _, _ => ⟨S64x8732x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc2_sem0_0 : DmaSem sig := 19
abbrev cc2_sem1_0 : DmaSem sig := 20
abbrev cc2_sem2_0 : DmaSem sig := 21
abbrev cc2_sem3_0 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x8732 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4x8732 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x8732 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![236], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2368x81 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x2368 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x2368 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

@[reducible] def k2_t1_loop : Scf.Loop 32 :=
  let c0_i32 : BitVec 32 := 0#32
  let c8732_i32 : BitVec 32 := 8732#32
  let v12 : BitVec 32 := Scalar.addi c0_i32 c8732_i32
  let c1_i32 : BitVec 32 := 1#32
  ⟨c0_i32, v12, c1_i32⟩
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x8732 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x1x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S236x1x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]
-- ==== ReferenceIdeal.lean ====
abbrev S64x8732x4 : Shape := ⟨3, ![64, 8732, 4]⟩
abbrev S64x8732x81 : Shape := ⟨3, ![64, 8732, 81]⟩
abbrev S64x16x4 : Shape := ⟨3, ![64, 16, 4]⟩
abbrev S64x16 : Shape := ⟨2, ![64, 16]⟩
abbrev S8732x4 : Shape := ⟨2, ![8732, 4]⟩
abbrev S8732x2 : Shape := ⟨2, ![8732, 2]⟩
abbrev S_ : Shape := ⟨0, ![]⟩
abbrev S64x16x2 : Shape := ⟨3, ![64, 16, 2]⟩
abbrev S64x16x1x2 : Shape := ⟨4, ![64, 16, 1, 2]⟩
abbrev S1x1x8732x2 : Shape := ⟨4, ![1, 1, 8732, 2]⟩
abbrev S64x16x8732x2 : Shape := ⟨4, ![64, 16, 8732, 2]⟩
abbrev S64x16x8732x1 : Shape := ⟨4, ![64, 16, 8732, 1]⟩
abbrev S64x16x8732 : Shape := ⟨3, ![64, 16, 8732]⟩
abbrev S64x16x1 : Shape := ⟨3, ![64, 16, 1]⟩
abbrev S8732x1 : Shape := ⟨2, ![8732, 1]⟩
abbrev S8732 : Shape := ⟨1, ![8732]⟩
abbrev S1x1x8732 : Shape := ⟨3, ![1, 1, 8732]⟩
abbrev S64x8732 : Shape := ⟨2, ![64, 8732]⟩
abbrev S64 : Shape := ⟨1, ![64]⟩
abbrev S64x1 : Shape := ⟨2, ![64, 1]⟩
abbrev S16 : Shape := ⟨1, ![16]⟩
abbrev S1x16 : Shape := ⟨2, ![1, 16]⟩
abbrev S64x8732x1 : Shape := ⟨3, ![64, 8732, 1]⟩
abbrev S64x8732x2 : Shape := ⟨3, ![64, 8732, 2]⟩
abbrev S1x8732x2 : Shape := ⟨3, ![1, 8732, 2]⟩
abbrev S64x8732x1x1 : Shape := ⟨4, ![64, 8732, 1, 1]⟩
abbrev S1 : Shape := ⟨1, ![1]⟩
abbrev S1x1x1x1 : Shape := ⟨4, ![1, 1, 1, 1]⟩
abbrev S1x8732 : Shape := ⟨2, ![1, 8732]⟩

abbrev nBuf : Space → Nat
  | .hbm => 295
  | .vmem => 0
  | .smem => 0
  | _ => 0

abbrev hbmTy0_0 (i : Nat) : BufTy := match i % 128 with
  | 0 => ⟨S64x8732x4, .f32⟩
  | 1 => ⟨S64x8732x81, .f32⟩
  | 2 => ⟨S64x16x4, .f32⟩
  | 3 => ⟨S64x16, .i32⟩
  | 4 => ⟨S8732x4, .f32⟩
  | 5 => ⟨S8732x2, .f32⟩
  | 6 => ⟨S8732x2, .f32⟩
  | 7 => ⟨S_, .f32⟩
  | 8 => ⟨S8732x2, .f32⟩
  | 9 => ⟨S8732x2, .f32⟩
  | 10 => ⟨S8732x2, .f32⟩
  | 11 => ⟨S8732x2, .f32⟩
  | 12 => ⟨S8732x2, .f32⟩
  | 13 => ⟨S_, .f32⟩
  | 14 => ⟨S8732x2, .f32⟩
  | 15 => ⟨S8732x2, .f32⟩
  | 16 => ⟨S8732x2, .f32⟩
  | 17 => ⟨S8732x4, .f32⟩
  | 18 => ⟨S64x16x2, .f32⟩
  | 19 => ⟨S64x16x1x2, .f32⟩
  | 20 => ⟨S8732x2, .f32⟩
  | 21 => ⟨S1x1x8732x2, .f32⟩
  | 22 => ⟨S64x16x8732x2, .f32⟩
  | 23 => ⟨S64x16x8732x2, .f32⟩
  | 24 => ⟨S64x16x8732x2, .f32⟩
  | 25 => ⟨S64x16x2, .f32⟩
  | 26 => ⟨S64x16x1x2, .f32⟩
  | 27 => ⟨S8732x2, .f32⟩
  | 28 => ⟨S1x1x8732x2, .f32⟩
  | 29 => ⟨S64x16x8732x2, .f32⟩
  | 30 => ⟨S64x16x8732x2, .f32⟩
  | 31 => ⟨S64x16x8732x2, .f32⟩
  | 32 => ⟨S64x16x8732x2, .f32⟩
  | 33 => ⟨S_, .f32⟩
  | 34 => ⟨S_, .f32⟩
  | 35 => ⟨S64x16x8732x2, .f32⟩
  | 36 => ⟨S64x16x8732x2, .f32⟩
  | 37 => ⟨S64x16x8732x1, .f32⟩
  | 38 => ⟨S64x16x8732, .f32⟩
  | 39 => ⟨S64x16x8732x1, .f32⟩
  | 40 => ⟨S64x16x8732, .f32⟩
  | 41 => ⟨S64x16x8732, .f32⟩
  | 42 => ⟨S64x16x1, .f32⟩
  | 43 => ⟨S64x16, .f32⟩
  | 44 => ⟨S64x16x1, .f32⟩
  | 45 => ⟨S64x16, .f32⟩
  | 46 => ⟨S64x16, .f32⟩
  | 47 => ⟨S64x16x1, .f32⟩
  | 48 => ⟨S64x16, .f32⟩
  | 49 => ⟨S64x16x1, .f32⟩
  | 50 => ⟨S64x16, .f32⟩
  | 51 => ⟨S64x16, .f32⟩
  | 52 => ⟨S64x16, .f32⟩
  | 53 => ⟨S8732x1, .f32⟩
  | 54 => ⟨S8732, .f32⟩
  | 55 => ⟨S8732x1, .f32⟩
  | 56 => ⟨S8732, .f32⟩
  | 57 => ⟨S8732, .f32⟩
  | 58 => ⟨S8732x1, .f32⟩
  | 59 => ⟨S8732, .f32⟩
  | 60 => ⟨S8732x1, .f32⟩
  | 61 => ⟨S8732, .f32⟩
  | 62 => ⟨S8732, .f32⟩
  | 63 => ⟨S8732, .f32⟩
  | 64 => ⟨S64x16x1, .f32⟩
  | 65 => ⟨S1x1x8732, .f32⟩
  | 66 => ⟨S64x16x8732, .f32⟩
  | 67 => ⟨S64x16x8732, .f32⟩
  | 68 => ⟨S64x16x8732, .f32⟩
  | 69 => ⟨S64x16x8732, .f32⟩
  | 70 => ⟨S64x16x8732, .f32⟩
  | 71 => ⟨S64x16x8732, .i32⟩
  | 72 => ⟨S_, .f32⟩
  | 73 => ⟨S_, .i32⟩
  | 74 => ⟨S64x8732, .f32⟩
  | 75 => ⟨S64x8732, .i32⟩
  | 76 => ⟨S_, .f32⟩
  | 77 => ⟨S64x8732, .f32⟩
  | 78 => ⟨S64x16x8732, .i32⟩
  | 79 => ⟨S_, .f32⟩
  | 80 => ⟨S_, .i32⟩
  | 81 => ⟨S64x16, .f32⟩
  | 82 => ⟨S64x16, .i32⟩
  | 83 => ⟨S64, .i32⟩
  | 84 => ⟨S64x1, .i32⟩
  | 85 => ⟨S16, .i32⟩
  | 86 => ⟨S1x16, .i32⟩
  | 87 => ⟨S64x16, .i32⟩
  | 88 => ⟨S_, .i32⟩
  | 89 => ⟨S64x1, .i32⟩
  | 90 => ⟨S64x1, .i1⟩
  | 91 => ⟨S_, .i32⟩
  | 92 => ⟨S64x1, .i32⟩
  | 93 => ⟨S64x1, .i32⟩
  | 94 => ⟨S64x1, .i32⟩
  | 95 => ⟨S_, .i32⟩
  | 96 => ⟨S64x16, .i32⟩
  | 97 => ⟨S64x16, .i1⟩
  | 98 => ⟨S_, .i32⟩
  | 99 => ⟨S64x16, .i32⟩
  | 100 => ⟨S64x16, .i32⟩
  | 101 => ⟨S64x16, .i32⟩
  | 102 => ⟨S64x16, .i32⟩
  | 103 => ⟨S64x16x1, .i32⟩
  | 104 => ⟨S64x16x1, .i32⟩
  | 105 => ⟨S64x16x2, .i32⟩
  | 106 => ⟨S64x8732, .i32⟩
  | 107 => ⟨S_, .i32⟩
  | 108 => ⟨S64x1, .i32⟩
  | 109 => ⟨S64x1, .i1⟩
  | 110 => ⟨S_, .i32⟩
  | 111 => ⟨S64x1, .i32⟩
  | 112 => ⟨S64x1, .i32⟩
  | 113 => ⟨S64x1, .i32⟩
  | 114 => ⟨S_, .i32⟩
  | 115 => ⟨S64x16, .i32⟩
  | 116 => ⟨S64x16, .i1⟩
  | 117 => ⟨S_, .i32⟩
  | 118 => ⟨S64x16, .i32⟩
  | 119 => ⟨S64x16, .i32⟩
  | 120 => ⟨S64x16, .i32⟩
  | 121 => ⟨S64x16, .i32⟩
  | 122 => ⟨S64x16x1, .i32⟩
  | 123 => ⟨S64x16x1, .i32⟩
  | 124 => ⟨S64x16x2, .i32⟩
  | 125 => ⟨S_, .f32⟩
  | 126 => ⟨S64x16, .f32⟩
  | 127 => ⟨S64x8732, .f32⟩
  | _ => ⟨S64x8732x4, .f32⟩

abbrev hbmTy0_1 (i : Nat) : BufTy := match i % 128 with
  | 0 => ⟨S_, .f32⟩
  | 1 => ⟨S64x8732, .f32⟩
  | 2 => ⟨S64x8732, .i1⟩
  | 3 => ⟨S_, .i32⟩
  | 4 => ⟨S64x1, .i32⟩
  | 5 => ⟨S64x1, .i1⟩
  | 6 => ⟨S_, .i32⟩
  | 7 => ⟨S64x1, .i32⟩
  | 8 => ⟨S64x1, .i32⟩
  | 9 => ⟨S64x1, .i32⟩
  | 10 => ⟨S_, .i32⟩
  | 11 => ⟨S64x8732, .i32⟩
  | 12 => ⟨S64x8732, .i1⟩
  | 13 => ⟨S_, .i32⟩
  | 14 => ⟨S64x8732, .i32⟩
  | 15 => ⟨S64x8732, .i32⟩
  | 16 => ⟨S64x8732, .i32⟩
  | 17 => ⟨S64x8732, .i32⟩
  | 18 => ⟨S64x8732x1, .i32⟩
  | 19 => ⟨S64x8732x1, .i32⟩
  | 20 => ⟨S64x8732x2, .i32⟩
  | 21 => ⟨S64x8732, .i32⟩
  | 22 => ⟨S_, .i32⟩
  | 23 => ⟨S_, .i32⟩
  | 24 => ⟨S64x8732, .i32⟩
  | 25 => ⟨S64x8732, .i32⟩
  | 26 => ⟨S_, .i32⟩
  | 27 => ⟨S64x1, .i32⟩
  | 28 => ⟨S64x1, .i1⟩
  | 29 => ⟨S_, .i32⟩
  | 30 => ⟨S64x1, .i32⟩
  | 31 => ⟨S64x1, .i32⟩
  | 32 => ⟨S64x1, .i32⟩
  | 33 => ⟨S_, .i32⟩
  | 34 => ⟨S64x8732, .i32⟩
  | 35 => ⟨S64x8732, .i1⟩
  | 36 => ⟨S_, .i32⟩
  | 37 => ⟨S64x8732, .i32⟩
  | 38 => ⟨S64x8732, .i32⟩
  | 39 => ⟨S64x8732, .i32⟩
  | 40 => ⟨S64x8732, .i32⟩
  | 41 => ⟨S64x8732x1, .i32⟩
  | 42 => ⟨S64x8732x1, .i32⟩
  | 43 => ⟨S64x8732x2, .i32⟩
  | 44 => ⟨S64x8732x4, .f32⟩
  | 45 => ⟨S64x8732x2, .f32⟩
  | 46 => ⟨S64x8732x2, .f32⟩
  | 47 => ⟨S64x8732x2, .f32⟩
  | 48 => ⟨S_, .f32⟩
  | 49 => ⟨S64x8732x2, .f32⟩
  | 50 => ⟨S64x8732x2, .f32⟩
  | 51 => ⟨S64x8732x2, .f32⟩
  | 52 => ⟨S64x8732x2, .f32⟩
  | 53 => ⟨S64x8732x2, .f32⟩
  | 54 => ⟨S8732x2, .f32⟩
  | 55 => ⟨S1x8732x2, .f32⟩
  | 56 => ⟨S64x8732x2, .f32⟩
  | 57 => ⟨S64x8732x2, .f32⟩
  | 58 => ⟨S8732x2, .f32⟩
  | 59 => ⟨S1x8732x2, .f32⟩
  | 60 => ⟨S64x8732x2, .f32⟩
  | 61 => ⟨S64x8732x2, .f32⟩
  | 62 => ⟨S_, .f32⟩
  | 63 => ⟨S64x8732x2, .f32⟩
  | 64 => ⟨S64x8732x2, .f32⟩
  | 65 => ⟨S8732x2, .f32⟩
  | 66 => ⟨S1x8732x2, .f32⟩
  | 67 => ⟨S64x8732x2, .f32⟩
  | 68 => ⟨S64x8732x2, .f32⟩
  | 69 => ⟨S64x8732x2, .f32⟩
  | 70 => ⟨S_, .f32⟩
  | 71 => ⟨S64x8732x2, .f32⟩
  | 72 => ⟨S64x8732x2, .f32⟩
  | 73 => ⟨S64x8732x4, .f32⟩
  | 74 => ⟨S_, .i32⟩
  | 75 => ⟨S64x8732, .i32⟩
  | 76 => ⟨S64x8732, .i1⟩
  | 77 => ⟨S64x8732, .i32⟩
  | 78 => ⟨S_, .i32⟩
  | 79 => ⟨S64, .i32⟩
  | 80 => ⟨S_, .i32⟩
  | 81 => ⟨S_, .i32⟩
  | 82 => ⟨S_, .f32⟩
  | 83 => ⟨S64x8732x4, .f32⟩
  | 84 => ⟨S64x8732x4, .f32⟩
  | 85 => ⟨S64x8732x1, .i1⟩
  | 86 => ⟨S64x8732x1, .f32⟩
  | 87 => ⟨S64x8732x4, .f32⟩
  | 88 => ⟨S64x8732x4, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S64x8732, .f32⟩
  | 96 => ⟨S_, .f32⟩
  | 97 => ⟨S64x8732, .f32⟩
  | 98 => ⟨S64x8732, .f32⟩
  | 99 => ⟨S64x8732x1, .f32⟩
  | 100 => ⟨S64x8732x81, .f32⟩
  | 101 => ⟨S64x8732x81, .f32⟩
  | 102 => ⟨S64x8732x81, .f32⟩
  | 103 => ⟨S_, .f32⟩
  | 104 => ⟨S64x8732, .f32⟩
  | 105 => ⟨S64x8732x1, .f32⟩
  | 106 => ⟨S64x8732x1, .f32⟩
  | 107 => ⟨S64x8732x81, .f32⟩
  | 108 => ⟨S64x8732x81, .f32⟩
  | 109 => ⟨S64x8732x1, .i32⟩
  | 110 => ⟨S_, .i32⟩
  | 111 => ⟨S64x8732x1, .i32⟩
  | 112 => ⟨S64x8732x1, .i1⟩
  | 113 => ⟨S_, .i32⟩
  | 114 => ⟨S64x8732x1, .i32⟩
  | 115 => ⟨S64x8732x1, .i32⟩
  | 116 => ⟨S64x8732x1, .i32⟩
  | 117 => ⟨S64x8732x1x1, .i32⟩
  | 118 => ⟨S1, .i32⟩
  | 119 => ⟨S_, .i32⟩
  | 120 => ⟨S64x8732x1x1, .i32⟩
  | 121 => ⟨S64x8732x1x1, .i1⟩
  | 122 => ⟨S1x1x1x1, .i32⟩
  | 123 => ⟨S64x8732x1x1, .i32⟩
  | 124 => ⟨S64x8732x1x1, .i1⟩
  | 125 => ⟨S64x8732x1x1, .i1⟩
  | 126 => ⟨S_, .i1⟩
  | 127 => ⟨S64x8732x1, .i1⟩
  | _ => ⟨S64x8732x4, .f32⟩

abbrev hbmTy0_2 (i : Nat) : BufTy := match i % 128 with
  | 0 => ⟨S64x8732x1, .f32⟩
  | 1 => ⟨S_, .f32⟩
  | 2 => ⟨S64x8732x1, .f32⟩
  | 3 => ⟨S64x8732x1, .f32⟩
  | 4 => ⟨S64x8732, .f32⟩
  | 5 => ⟨S64x8732, .f32⟩
  | 6 => ⟨S_, .f32⟩
  | 7 => ⟨S_, .f32⟩
  | 8 => ⟨S64x8732, .f32⟩
  | 9 => ⟨S64x8732, .f32⟩
  | 10 => ⟨S_, .f32⟩
  | 11 => ⟨S_, .f32⟩
  | 12 => ⟨S_, .f32⟩
  | 13 => ⟨S_, .f32⟩
  | 14 => ⟨S64x8732, .f32⟩
  | 15 => ⟨S64x8732, .f32⟩
  | 16 => ⟨S64x8732, .f32⟩
  | 17 => ⟨S64x8732, .f32⟩
  | 18 => ⟨S64x8732, .f32⟩
  | 19 => ⟨S8732, .i32⟩
  | 20 => ⟨S1x8732, .i32⟩
  | 21 => ⟨S_, .i32⟩
  | 22 => ⟨S64, .i32⟩
  | 23 => ⟨S64, .i32⟩
  | 24 => ⟨S64x1, .i32⟩
  | 25 => ⟨S64x8732, .i32⟩
  | 26 => ⟨S64x8732, .i32⟩
  | 27 => ⟨S64x8732, .i1⟩
  | 28 => ⟨S_, .f32⟩
  | 29 => ⟨S_, .f32⟩
  | 30 => ⟨S64x8732, .f32⟩
  | 31 => ⟨S64x8732, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | _ => ⟨S64x8732x4, .f32⟩

abbrev hbmTy (i : Nat) : BufTy := match i / 128 with
  | 0 => hbmTy0_0 i
  | 1 => hbmTy0_1 i
  | 2 => hbmTy0_2 i
  | _ => ⟨S64x8732x4, .f32⟩

abbrev bufTy : (tb : Table) → Fin (tcTables nBuf tb) → BufTy
  | .hbm, ⟨i, _⟩ => hbmTy i
  | _, _ => ⟨S64x8732x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_call0_v0 : Ref sig .tc := ⟨.hbm, 34, rfl⟩
abbrev main_call0_v1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_call1_v0 : Ref sig .tc := ⟨.hbm, 71, rfl⟩
abbrev main_call1_cst : Ref sig .tc := ⟨.hbm, 72, rfl⟩
abbrev main_call1_c : Ref sig .tc := ⟨.hbm, 73, rfl⟩
abbrev main_call1_v1_0 : Ref sig .tc := ⟨.hbm, 74, rfl⟩
abbrev main_v61 : Ref sig .tc := ⟨.hbm, 75, rfl⟩
abbrev main_cst_2 : Ref sig .tc := ⟨.hbm, 76, rfl⟩
abbrev main_v62 : Ref sig .tc := ⟨.hbm, 77, rfl⟩
abbrev main_call2_v0 : Ref sig .tc := ⟨.hbm, 78, rfl⟩
abbrev main_call2_cst : Ref sig .tc := ⟨.hbm, 79, rfl⟩
abbrev main_call2_c : Ref sig .tc := ⟨.hbm, 80, rfl⟩
abbrev main_call2_v1_0 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_c : Ref sig .tc := ⟨.hbm, 88, rfl⟩
abbrev main_v69 : Ref sig .tc := ⟨.hbm, 89, rfl⟩
abbrev main_v70 : Ref sig .tc := ⟨.hbm, 90, rfl⟩
abbrev main_c_3 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_c_4 : Ref sig .tc := ⟨.hbm, 95, rfl⟩
abbrev main_v74 : Ref sig .tc := ⟨.hbm, 96, rfl⟩
abbrev main_v75 : Ref sig .tc := ⟨.hbm, 97, rfl⟩
abbrev main_c_5 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_c_6 : Ref sig .tc := ⟨.hbm, 107, rfl⟩
abbrev main_v84 : Ref sig .tc := ⟨.hbm, 108, rfl⟩
abbrev main_v85 : Ref sig .tc := ⟨.hbm, 109, rfl⟩
abbrev main_c_7 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_c_8 : Ref sig .tc := ⟨.hbm, 114, rfl⟩
abbrev main_v89 : Ref sig .tc := ⟨.hbm, 115, rfl⟩
abbrev main_v90 : Ref sig .tc := ⟨.hbm, 116, rfl⟩
abbrev main_c_9 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_10 : Ref sig .tc := ⟨.hbm, 125, rfl⟩
abbrev main_v98 : Ref sig .tc := ⟨.hbm, 126, rfl⟩
abbrev main_v99 : Ref sig .tc := ⟨.hbm, 127, rfl⟩
abbrev main_cst_11 : Ref sig .tc := ⟨.hbm, 128, rfl⟩
abbrev main_v100 : Ref sig .tc := ⟨.hbm, 129, rfl⟩
abbrev main_v101 : Ref sig .tc := ⟨.hbm, 130, rfl⟩
abbrev main_c_12 : Ref sig .tc := ⟨.hbm, 131, rfl⟩
abbrev main_v102 : Ref sig .tc := ⟨.hbm, 132, rfl⟩
abbrev main_v103 : Ref sig .tc := ⟨.hbm, 133, rfl⟩
abbrev main_c_13 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_c_14 : Ref sig .tc := ⟨.hbm, 138, rfl⟩
abbrev main_v107 : Ref sig .tc := ⟨.hbm, 139, rfl⟩
abbrev main_v108 : Ref sig .tc := ⟨.hbm, 140, rfl⟩
abbrev main_c_15 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_c_16 : Ref sig .tc := ⟨.hbm, 150, rfl⟩
abbrev main_call3_v0 : Ref sig .tc := ⟨.hbm, 151, rfl⟩
abbrev main_call3_v1 : Ref sig .tc := ⟨.hbm, 152, rfl⟩
abbrev main_v117 : Ref sig .tc := ⟨.hbm, 153, rfl⟩
abbrev main_c_17 : Ref sig .tc := ⟨.hbm, 154, rfl⟩
abbrev main_v118 : Ref sig .tc := ⟨.hbm, 155, rfl⟩
abbrev main_v119 : Ref sig .tc := ⟨.hbm, 156, rfl⟩
abbrev main_c_18 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_c_19 : Ref sig .tc := ⟨.hbm, 161, rfl⟩
abbrev main_v123 : Ref sig .tc := ⟨.hbm, 162, rfl⟩
abbrev main_v124 : Ref sig .tc := ⟨.hbm, 163, rfl⟩
abbrev main_c_20 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_cst_21 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_cst_22 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_cst_23 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_c_24 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_c_25 : Ref sig .tc := ⟨.hbm, 206, rfl⟩
abbrev main_v162 : Ref sig .tc := ⟨.hbm, 207, rfl⟩
abbrev main_c_26 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_cst_27 : Ref sig .tc := ⟨.hbm, 217, rfl⟩
abbrev main_v171 : Ref sig .tc := ⟨.hbm, 218, rfl⟩
abbrev main_cst_28 : Ref sig .tc := ⟨.hbm, 219, rfl⟩
abbrev main_v172 : Ref sig .tc := ⟨.hbm, 220, rfl⟩
abbrev main_v173 : Ref sig .tc := ⟨.hbm, 221, rfl⟩
abbrev main_call4_cst : Ref sig .tc := ⟨.hbm, 222, rfl⟩
abbrev main_call4_v0 : Ref sig .tc := ⟨.hbm, 223, rfl⟩
abbrev main_call4_cst_0 : Ref sig .tc := ⟨.hbm, 224, rfl⟩
abbrev main_call4_v1 : Ref sig .tc := ⟨.hbm, 225, rfl⟩
abbrev main_call4_v2 : Ref sig .tc := ⟨.hbm, 226, rfl⟩
abbrev main_call4_v3 : Ref sig .tc := ⟨.hbm, 227, rfl⟩
abbrev main_call4_v4 : Ref sig .tc := ⟨.hbm, 228, rfl⟩
abbrev main_call4_v5 : Ref sig .tc := ⟨.hbm, 229, rfl⟩
abbrev main_call4_v6 : Ref sig .tc := ⟨.hbm, 230, rfl⟩
abbrev main_call4_cst_1 : Ref sig .tc := ⟨.hbm, 231, rfl⟩
abbrev main_call4_v7 : Ref sig .tc := ⟨.hbm, 232, rfl⟩
abbrev main_call4_v8 : Ref sig .tc := ⟨.hbm, 233, rfl⟩
abbrev main_call4_v9 : Ref sig .tc := ⟨.hbm, 234, rfl⟩
abbrev main_call4_v10 : Ref sig .tc := ⟨.hbm, 235, rfl⟩
abbrev main_v174 : Ref sig .tc := ⟨.hbm, 236, rfl⟩
abbrev main_v175 : Ref sig .tc := ⟨.hbm, 237, rfl⟩
abbrev main_call5_c : Ref sig .tc := ⟨.hbm, 238, rfl⟩
abbrev main_call5_v0 : Ref sig .tc := ⟨.hbm, 239, rfl⟩
abbrev main_call5_v1 : Ref sig .tc := ⟨.hbm, 240, rfl⟩
abbrev main_call5_c_0 : Ref sig .tc := ⟨.hbm, 241, rfl⟩
abbrev main_call5_v2 : Ref sig .tc := ⟨.hbm, 242, rfl⟩
abbrev main_call5_v3 : Ref sig .tc := ⟨.hbm, 243, rfl⟩
abbrev main_call5_v4 : Ref sig .tc := ⟨.hbm, 244, rfl⟩
abbrev main_call5_v5 : Ref sig .tc := ⟨.hbm, 245, rfl⟩
abbrev main_call5_c_1 : Ref sig .tc := ⟨.hbm, 246, rfl⟩
abbrev main_call5_c_2 : Ref sig .tc := ⟨.hbm, 247, rfl⟩
abbrev main_call5_v6 : Ref sig .tc := ⟨.hbm, 248, rfl⟩
abbrev main_call5_v7 : Ref sig .tc := ⟨.hbm, 249, rfl⟩
abbrev main_call5_v8 : Ref sig .tc := ⟨.hbm, 250, rfl⟩
abbrev main_call5_v9 : Ref sig .tc := ⟨.hbm, 251, rfl⟩
abbrev main_call5_v10 : Ref sig .tc := ⟨.hbm, 252, rfl⟩
abbrev main_call5_v11 : Ref sig .tc := ⟨.hbm, 253, rfl⟩
abbrev main_call5_c_3 : Ref sig .tc := ⟨.hbm, 254, rfl⟩
abbrev main_call5_v12 : Ref sig .tc := ⟨.hbm, 255, rfl⟩
abbrev main_call5_v13 : Ref sig .tc := ⟨.hbm, 256, rfl⟩
abbrev main_call5_cst : Ref sig .tc := ⟨.hbm, 257, rfl⟩
abbrev main_call5_v14 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_cst_29 : Ref sig .tc := ⟨.hbm, 262, rfl⟩
abbrev main_call6_v0 : Ref sig .tc := ⟨.hbm, 263, rfl⟩
abbrev main_call6_v1 : Ref sig .tc := ⟨.hbm, 264, rfl⟩
abbrev main_v179 : Ref sig .tc := ⟨.hbm, 265, rfl⟩
abbrev main_cst_30 : Ref sig .tc := ⟨.hbm, 266, rfl⟩
abbrev main_v180 : Ref sig .tc := ⟨.hbm, 267, rfl⟩
abbrev main_cst_31 : Ref sig .tc := ⟨.hbm, 268, rfl⟩
abbrev main_call7_v0 : Ref sig .tc := ⟨.hbm, 269, rfl⟩
abbrev main_call7_v1 : Ref sig .tc := ⟨.hbm, 270, rfl⟩
abbrev main_v181 : Ref sig .tc := ⟨.hbm, 271, rfl⟩
abbrev main_v182 : Ref sig .tc := ⟨.hbm, 272, rfl⟩
abbrev main_v183 : Ref sig .tc := ⟨.hbm, 273, rfl⟩
abbrev main_v184 : Ref sig .tc := ⟨.hbm, 274, rfl⟩
abbrev main_v185 : Ref sig .tc := ⟨.hbm, 275, rfl⟩
abbrev main_v186 : Ref sig .tc := ⟨.hbm, 276, rfl⟩
abbrev main_c_32 : Ref sig .tc := ⟨.hbm, 277, rfl⟩
abbrev main_v187 : Ref sig .tc := ⟨.hbm, 278, rfl⟩
abbrev main_v188 : Ref sig .tc := ⟨.hbm, 279, rfl⟩
abbrev main_v189 : Ref sig .tc := ⟨.hbm, 280, rfl⟩
abbrev main_v190 : Ref sig .tc := ⟨.hbm, 281, rfl⟩
abbrev main_v191 : Ref sig .tc := ⟨.hbm, 282, rfl⟩
abbrev main_v192 : Ref sig .tc := ⟨.hbm, 283, rfl⟩
abbrev main_cst_33 : Ref sig .tc := ⟨.hbm, 284, rfl⟩
abbrev main_call9_v0 : Ref sig .tc := ⟨.hbm, 285, rfl⟩
abbrev main_call9_v1 : Ref sig .tc := ⟨.hbm, 286, rfl⟩
abbrev main_v193 : Ref sig .tc := ⟨.hbm, 287, rfl⟩
abbrev main_cst_34 : Ref sig .tc := ⟨.hbm, 288, rfl⟩
abbrev main_v194 : Ref sig .tc := ⟨.hbm, 289, rfl⟩
abbrev main_v195 : Ref sig .tc := ⟨.hbm, 290, rfl⟩
abbrev main_v196 : Ref sig .tc := ⟨.hbm, 291, rfl⟩
abbrev main_cst_35 : Ref sig .tc := ⟨.hbm, 292, rfl⟩
abbrev main_v197 : Ref sig .tc := ⟨.hbm, 293, rfl⟩
abbrev main_v198 : Ref sig .tc := ⟨.hbm, 294, rfl⟩

abbrev nD : Nat := 1
abbrev τ : Topo := Topo.v7x

variable {F : FTy → Type} [FloatOps F]
-- ==== Original.lean ====
abbrev S64x8732x4 : Shape := ⟨3, ![64, 8732, 4]⟩
abbrev S64x8732x81 : Shape := ⟨3, ![64, 8732, 81]⟩
abbrev S64x16x4 : Shape := ⟨3, ![64, 16, 4]⟩
abbrev S64x16 : Shape := ⟨2, ![64, 16]⟩
abbrev S8732x4 : Shape := ⟨2, ![8732, 4]⟩
abbrev S4x8732 : Shape := ⟨2, ![4, 8732]⟩
abbrev S64x4x8732 : Shape := ⟨3, ![64, 4, 8732]⟩
abbrev S64x16x1 : Shape := ⟨3, ![64, 16, 1]⟩
abbrev S64x1x8732 : Shape := ⟨3, ![64, 1, 8732]⟩
abbrev S64x1x8 : Shape := ⟨3, ![64, 1, 8]⟩
abbrev S1x16x4 : Shape := ⟨3, ![1, 16, 4]⟩
abbrev S1x16x1 : Shape := ⟨3, ![1, 16, 1]⟩
abbrev S1x4x8732 : Shape := ⟨3, ![1, 4, 8732]⟩
abbrev S1x1x8732 : Shape := ⟨3, ![1, 1, 8732]⟩
abbrev S1x1x8 : Shape := ⟨3, ![1, 1, 8]⟩
abbrev S16x4 : Shape := ⟨2, ![16, 4]⟩
abbrev S16x1 : Shape := ⟨2, ![16, 1]⟩
abbrev S1x8732 : Shape := ⟨2, ![1, 8732]⟩
abbrev S16x8732 : Shape := ⟨2, ![16, 8732]⟩
abbrev S8732 : Shape := ⟨1, ![8732]⟩
abbrev S16 : Shape := ⟨1, ![16]⟩
abbrev S1 : Shape := ⟨1, ![1]⟩
abbrev S1x1x1 : Shape := ⟨3, ![1, 1, 1]⟩
abbrev S1x1 : Shape := ⟨2, ![1, 1]⟩
abbrev S1x6 : Shape := ⟨2, ![1, 6]⟩
abbrev S1x8 : Shape := ⟨2, ![1, 8]⟩
abbrev S558848x81 : Shape := ⟨2, ![558848, 81]⟩
abbrev S236x1x2368 : Shape := ⟨3, ![236, 1, 2368]⟩
abbrev S236x1x8 : Shape := ⟨3, ![236, 1, 8]⟩
abbrev S2368x81 : Shape := ⟨2, ![2368, 81]⟩
abbrev S1x1x2368 : Shape := ⟨3, ![1, 1, 2368]⟩
abbrev S1x2368 : Shape := ⟨2, ![1, 2368]⟩
abbrev S2368x1 : Shape := ⟨2, ![2368, 1]⟩
abbrev S1x81 : Shape := ⟨2, ![1, 81]⟩
abbrev S1x7 : Shape := ⟨2, ![1, 7]⟩
abbrev S64x8732 : Shape := ⟨2, ![64, 8732]⟩
abbrev S64x8 : Shape := ⟨2, ![64, 8]⟩
abbrev S64x1 : Shape := ⟨2, ![64, 1]⟩
abbrev S64 : Shape := ⟨1, ![64]⟩
abbrev S236x1x1 : Shape := ⟨3, ![236, 1, 1]⟩
abbrev S236x1 : Shape := ⟨2, ![236, 1]⟩
abbrev S1x236x1 : Shape := ⟨3, ![1, 236, 1]⟩
abbrev S1x64x1 : Shape := ⟨3, ![1, 64, 1]⟩
abbrev S_ : Shape := ⟨0, ![]⟩

abbrev nBuf : Space → Nat
  | .hbm => 17
  | .vmem => 23
  | .smem => 0
  | _ => 0

abbrev bufTy : (tb : Table) → Fin (tcTables nBuf tb) → BufTy
  | .hbm, ⟨0, _⟩ => ⟨S64x8732x4, .f32⟩
  | .hbm, ⟨1, _⟩ => ⟨S64x8732x81, .f32⟩
  | .hbm, ⟨2, _⟩ => ⟨S64x16x4, .f32⟩
  | .hbm, ⟨3, _⟩ => ⟨S64x16, .i32⟩
  | .hbm, ⟨4, _⟩ => ⟨S8732x4, .f32⟩
  | .hbm, ⟨5, _⟩ => ⟨S4x8732, .f32⟩
  | .hbm, ⟨6, _⟩ => ⟨S64x4x8732, .f32⟩
  | .hbm, ⟨7, _⟩ => ⟨S64x16x1, .i32⟩
  | .hbm, ⟨8, _⟩ => ⟨S64x1x8732, .i32⟩
  | .hbm, ⟨9, _⟩ => ⟨S64x1x8, .f32⟩
  | .hbm, ⟨10, _⟩ => ⟨S558848x81, .f32⟩
  | .hbm, ⟨11, _⟩ => ⟨S236x1x2368, .i32⟩
  | .hbm, ⟨12, _⟩ => ⟨S236x1x2368, .f32⟩
  | .hbm, ⟨13, _⟩ => ⟨S236x1x8, .f32⟩
  | .hbm, ⟨14, _⟩ => ⟨S64x8732, .f32⟩
  | .hbm, ⟨15, _⟩ => ⟨S1x1, .f32⟩
  | .hbm, ⟨16, _⟩ => ⟨S_, .f32⟩
  | .local _ .vmem, ⟨0, _⟩ => ⟨S1x16x4, .f32⟩
  | .local _ .vmem, ⟨1, _⟩ => ⟨S1x16x4, .f32⟩
  | .local _ .vmem, ⟨2, _⟩ => ⟨S1x16x1, .i32⟩
  | .local _ .vmem, ⟨3, _⟩ => ⟨S1x16x1, .i32⟩
  | .local _ .vmem, ⟨4, _⟩ => ⟨S4x8732, .f32⟩
  | .local _ .vmem, ⟨5, _⟩ => ⟨S1x4x8732, .f32⟩
  | .local _ .vmem, ⟨6, _⟩ => ⟨S1x4x8732, .f32⟩
  | .local _ .vmem, ⟨7, _⟩ => ⟨S1x1x8732, .i32⟩
  | .local _ .vmem, ⟨8, _⟩ => ⟨S1x1x8732, .i32⟩
  | .local _ .vmem, ⟨9, _⟩ => ⟨S1x1x8, .f32⟩
  | .local _ .vmem, ⟨10, _⟩ => ⟨S1x1x8, .f32⟩
  | .local _ .vmem, ⟨11, _⟩ => ⟨S2368x81, .f32⟩
  | .local _ .vmem, ⟨12, _⟩ => ⟨S2368x81, .f32⟩
  | .local _ .vmem, ⟨13, _⟩ => ⟨S1x1x2368, .i32⟩
  | .local _ .vmem, ⟨14, _⟩ => ⟨S1x1x2368, .i32⟩
  | .local _ .vmem, ⟨15, _⟩ => ⟨S1x1x2368, .f32⟩
  | .local _ .vmem, ⟨16, _⟩ => ⟨S1x1x2368, .f32⟩
  | .local _ .vmem, ⟨17, _⟩ => ⟨S1x1x8, .f32⟩
  | .local _ .vmem, ⟨18, _⟩ => ⟨S1x1x8, .f32⟩
  | .local _ .vmem, ⟨19, _⟩ => ⟨S64x8732, .f32⟩
  | .local _ .vmem, ⟨20, _⟩ => ⟨S64x1x8, .f32⟩
  | .local _ .vmem, ⟨21, _⟩ => ⟨S236x1x8, .f32⟩
  | .local _ .vmem, ⟨22, _⟩ => ⟨S1x1, .f32⟩
  | _, _ => ⟨S64x8732x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc2_sem0_0 : DmaSem sig := 19
abbrev cc2_sem1_0 : DmaSem sig := 20
abbrev cc2_sem2_0 : DmaSem sig := 21
abbrev cc2_sem3_0 : DmaSem sig := 22

abbrev nD : Nat := 1
abbrev τ : Topo := Topo.v7x

variable {F : FTy → Type} [BitOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x8732 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4x8732 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x8732 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![236], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2368x81 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x2368 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x2368 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

@[reducible] def k2_t1_loop : Scf.Loop 32 :=
  let c0_i32_4 : BitVec 32 := 0#32
  let c31_i32 : BitVec 32 := 31#32
  let v12 : BitVec 32 := Scalar.addi c0_i32_4 c31_i32
  let c1_i32 : BitVec 32 := 1#32
  ⟨c0_i32_4, v12, c1_i32⟩
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x8732 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x1x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S236x1x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]
-- ==== Proof.Spec.lean ====
module

public import Idealize.ShloMosaic.Lib.Pointwise

@[expose] public section

set_option maxRecDepth 16384

noncomputable section

/-! The box loss on plain indices: the overlap of a box and a prior, the matching of priors to objects, the encoded
    offsets and the classification loss. Both programs are read against these definitions. -/

namespace Cert.Spec

open Idealize.ShloMosaic

/-- The constants of the loss, as both programs spell them. -/
abbrev two : EReal := Ideal.ofBits .f32 0x40000000#32
abbrev half : EReal := Ideal.ofBits .f32 0x3F000000#32
abbrev five : EReal := Ideal.ofBits .f32 0x40A00000#32
abbrev ten : EReal := Ideal.ofBits .f32 0x41200000#32

/-- The lower edge of a prior (centre `c`, width `w`). -/
def lower (c w : EReal) : EReal := c - Ideal.div w two
/-- The upper edge of a prior (centre `c`, width `w`). -/
def upper (c w : EReal) : EReal := c + Ideal.div w two
/-- The length of the common part of `[a, b]` and the prior's interval, zero where they do not meet. -/
def side (a b c w : EReal) : EReal := max 0 (min b (upper c w) - max a (lower c w))
/-- The common area of a box and a prior. -/
def inter (b q : Fin 4 → EReal) : EReal := side (b 0) (b 2) (q 0) (q 2) * side (b 1) (b 3) (q 1) (q 3)
/-- The area of a box. -/
def areaB (b : Fin 4 → EReal) : EReal := (b 2 - b 0) * (b 3 - b 1)
/-- The area of a prior. -/
def areaP (q : Fin 4 → EReal) : EReal := (upper (q 0) (q 2) - lower (q 0) (q 2)) * (upper (q 1) (q 3) - lower (q 1) (q 3))
/-- The overlap (intersection over union) of a box and a prior. -/
def iou (b q : Fin 4 → EReal) : EReal := Ideal.div (inter b q) (areaB b + areaP q - inter b q)

/-- `i` is the first place where `f` is largest. -/
def IsFirstMax {n : ℕ} (f : Fin n → EReal) (i : Fin n) : Prop := (∀ j, f j ≤ f i) ∧ ∀ j, j < i → f j < f i

theorem IsFirstMax.unique {n : ℕ} {f : Fin n → EReal} {i j : Fin n} (hi : IsFirstMax f i) (hj : IsFirstMax f j) : i = j := by
  rcases lt_trichotomy i j with h | h | h
  · exact absurd (hj.2 i h) (not_lt.2 (hi.1 j))
  · exact h
  · exact absurd (hi.2 j h) (not_lt.2 (hj.1 i))

theorem exists_firstMax {n : ℕ} (f : Fin (n + 1) → EReal) : ∃ i, IsFirstMax f i := by
  classical
  obtain ⟨m, -, hm⟩ := Finset.exists_max_image Finset.univ f ⟨0, Finset.mem_univ _⟩
  have hS : (Finset.univ.filter fun i => f i = f m).Nonempty := ⟨m, by simp⟩
  refine ⟨(Finset.univ.filter fun i => f i = f m).min' hS, ?_⟩
  have h0 := Finset.min'_mem _ hS
  have h1 : f ((Finset.univ.filter fun i => f i = f m).min' hS) = f m := by simpa using h0
  refine ⟨fun j => by rw [h1]; exact hm j (Finset.mem_univ _), fun j hj => ?_⟩
  rw [h1]
  refine lt_of_le_of_ne (hm j (Finset.mem_univ _)) fun he => ?_
  exact absurd (Finset.min'_le _ j (by simpa using he)) (not_le.2 hj)

/-- The first place where `f` is largest. -/
def firstMax {n : ℕ} (f : Fin (n + 1) → EReal) : Fin (n + 1) := (exists_firstMax f).choose

theorem firstMax_spec {n : ℕ} (f : Fin (n + 1) → EReal) : IsFirstMax f (firstMax f) := (exists_firstMax f).choose_spec

theorem firstMax_eq {n : ℕ} {f : Fin (n + 1) → EReal} {i : Fin (n + 1)} (h : IsFirstMax f i) : i = firstMax f :=
  h.unique (firstMax_spec f)

/-- The largest value of `f`. -/
def top {n : ℕ} (f : Fin (n + 1) → EReal) : EReal := f (firstMax f)

section Image

variable (B : Fin 16 → Fin 4 → EReal) (Q : Fin 8732 → Fin 4 → EReal)

/-- The prior that fits object `o` best. -/
def prior (o : Fin 16) : Fin 8732 := firstMax fun p => iou (B o) (Q p)

/-- Some object takes prior `p` as its best. -/
def Forced (p : Fin 8732) : Prop := ∃ o, prior B Q o = p

open Classical in
/-- The last object that takes prior `p` as its best (used where one does). -/
def winner (p : Fin 8732) (h : Forced B Q p) : Fin 16 :=
  (Finset.univ.filter fun o => prior B Q o = p).max' (by obtain ⟨o, ho⟩ := h; exact ⟨o, by simp [ho]⟩)

theorem winner_spec (p : Fin 8732) (h : Forced B Q p) : prior B Q (winner B Q p h) = p := by
  have := Finset.max'_mem _ (by obtain ⟨o, ho⟩ := h; exact ⟨o, by simp [ho]⟩ : (Finset.univ.filter fun o => prior B Q o = p).Nonempty)
  simpa [winner] using this

theorem le_winner (p : Fin 8732) (h : Forced B Q p) (o : Fin 16) (ho : prior B Q o = p) : o ≤ winner B Q p h :=
  Finset.le_max' _ o (by simp [ho])

open Classical in
/-- The object of prior `p`: the last one that takes it as its best, else the one that fits it best. -/
def obj (p : Fin 8732) : Fin 16 :=
  if h : Forced B Q p then winner B Q p h else firstMax fun o => iou (B o) (Q p)

open Classical in
/-- The overlap of prior `p` with its object, one where the match is forced. -/
def overlap (p : Fin 8732) : EReal := if Forced B Q p then 1 else top fun o => iou (B o) (Q p)

/-- The class of prior `p`: its object's, background below the threshold. -/
def cls (L : Fin 16 → BitVec 32) (p : Fin 8732) : BitVec 32 := if overlap B Q p < half then 0#32 else L (obj B Q p)

/-- The absolute value. -/
def absE (a : EReal) : EReal := max a (-a)

/-- The encoded centre of a box against a prior. -/
def encC (a b c w : EReal) : EReal := Ideal.div (Ideal.div (a + b) two - c) w * ten
/-- The encoded width of a box against a prior. -/
def encW (a b w : EReal) : EReal := Ideal.log (Ideal.div (b - a) w) * five

/-- The sum of the four offset errors of prior `p` (`T` the predicted offsets). -/
def offset (T : Fin 8732 → Fin 4 → EReal) (p : Fin 8732) : EReal :=
  let b := B (obj B Q p)
  let q := Q p
  absE (T p 0 - encC (b 0) (b 2) (q 0) (q 2)) + absE (T p 1 - encC (b 1) (b 3) (q 1) (q 3))
    + absE (T p 2 - encW (b 0) (b 2) (q 2)) + absE (T p 3 - encW (b 1) (b 3) (q 3))

end Image

/-- One for a prior with an object, zero for background. -/
def ind (l : BitVec 32) : EReal := if l = 0#32 then 0 else 1

/-- The classification loss of scores `s` at class `l`. -/
def ce (s : Fin 81 → EReal) (l : BitVec 32) : EReal :=
  Ideal.log (∑ c, Ideal.exp (s c)) - ∑ c : Fin 81, if BitVec.ofNat 32 c = l then s c else 0

end Cert.Spec

end

end
-- ==== Proof.Folds.lean ====
module

public import proofs.«01_k».proof.Proof.Spec
public import Idealize.ShloMosaic.Lib.SortNet.Extract

@[expose] public section

set_option maxRecDepth 16384

noncomputable section

/-! Reductions of a row of plain values: the largest value, the first place of the largest, the last place of a mark, and
    the one entry that a mark picks out. -/

namespace Cert.Folds

open Idealize.ShloMosaic Cert.Spec

/-- The float with the bits of minus infinity is the least value. -/
theorem negInf : Ideal.ofBits .f32 4286578688#32 = ⊥ := by
  simp [Ideal.ofBits, Ideal.ieee]

/-- A choice on whether two words are equal. -/
theorem select_eq {α : Type} {w : ℕ} (a b : BitVec w) (x y : α) : Scalar.select (IntOp.cmpi .eq a b) x y = if a = b then x else y := by
  unfold Scalar.select IntOp.cmpi
  by_cases h : a = b
  · simp [h]
  · have : (a == b) = false := by simpa using h
    simp [h, this]

/-- A choice on whether two words differ. -/
theorem select_ne {α : Type} {w : ℕ} (a b : BitVec w) (x y : α) : Scalar.select (IntOp.cmpi .ne a b) x y = if a = b then y else x := by
  unfold Scalar.select IntOp.cmpi
  by_cases h : a = b
  · simp [h]
  · have : (a != b) = true := by simpa using h
    simp [h, this]

/-- A choice on whether a word is at least zero. -/
theorem select_sge {α : Type} (a : BitVec 32) (x y : α) : Scalar.select (IntOp.cmpi .sge a 0#32) x y = if 0 ≤ a.toInt then x else y := by
  unfold Scalar.select IntOp.cmpi
  by_cases h : 0 ≤ a.toInt <;> simp [h, BitVec.sle]

theorem ofNat_inj {a b : ℕ} (ha : a < 2 ^ 31) (hb : b < 2 ^ 31) : BitVec.ofNat 32 a = BitVec.ofNat 32 b ↔ a = b := by
  constructor
  · intro h
    have := congrArg BitVec.toNat h
    simp only [BitVec.toNat_ofNat] at this
    omega
  · rintro rfl; rfl

theorem toInt_ofNat {a : ℕ} (ha : a < 2 ^ 31) : (BitVec.ofNat 32 a).toInt = a := by
  rw [BitVec.toInt_eq_toNat_of_lt] <;> simp only [BitVec.toNat_ofNat] <;> omega

/-- The largest value of a row, folded from minus infinity. -/
theorem fold_top {n : ℕ} (f : Fin (n + 1) → EReal) : Finset.fold max (⊥ : EReal) f Finset.univ = top f := by
  apply le_antisymm
  · rw [Finset.fold_max_le]
    exact ⟨bot_le, fun x _ => (firstMax_spec f).1 x⟩
  · rw [Finset.le_fold_max]
    exact Or.inr ⟨firstMax f, Finset.mem_univ _, le_refl _⟩

/-- A signed minimum over a finite set is at most the start and every word met, and is one of them. -/
theorem fold_minsi_spec {ι : Type} [DecidableEq ι] {w : ℕ} (g : ι → BitVec w) (s : Finset ι) (init : BitVec w) :
    (s.fold IntOp.minsi init g).toInt ≤ init.toInt ∧ (∀ i ∈ s, (s.fold IntOp.minsi init g).toInt ≤ (g i).toInt) ∧
      (s.fold IntOp.minsi init g = init ∨ ∃ i ∈ s, s.fold IntOp.minsi init g = g i) := by
  induction s using Finset.induction_on with
  | empty => exact ⟨le_of_eq (by rw [Finset.fold_empty]), fun i hi => absurd hi (Finset.notMem_empty i), Or.inl (by rw [Finset.fold_empty])⟩
  | insert a s has ih =>
    obtain ⟨h1, h2, h3⟩ := ih
    rw [Finset.fold_insert has]
    have hm := SortNet.toInt_minsi (g a) (s.fold IntOp.minsi init g)
    refine ⟨le_trans (by rw [hm]; exact min_le_right _ _) h1, fun i hi => ?_, ?_⟩
    · rcases Finset.mem_insert.mp hi with rfl | hi
      · rw [hm]; exact min_le_left _ _
      · exact le_trans (by rw [hm]; exact min_le_right _ _) (h2 i hi)
    · rcases min_choice (g a).toInt (s.fold IntOp.minsi init g).toInt with h | h
      · exact Or.inr ⟨a, Finset.mem_insert_self a s, BitVec.eq_of_toInt_eq (hm.trans h)⟩
      · have e := BitVec.eq_of_toInt_eq (hm.trans h)
        rcases h3 with h3 | ⟨i, hi, h3⟩
        · exact Or.inl (e.trans h3)
        · exact Or.inr ⟨i, Finset.mem_insert_of_mem hi, e.trans h3⟩

/-- The least index at which a row takes its largest value, as a signed minimum of marked indices. -/
theorem fold_first {n : ℕ} (hn : n < 2 ^ 30) (f : Fin (n + 1) → EReal) (t : EReal) (ht : t = top f) (dec : ∀ x, Decidable (f x = t)) :
    Finset.fold IntOp.minsi 2147483647#32 (fun x : Fin (n + 1) => @ite _ (f x = t) (dec x) (BitVec.ofNat 32 x.val) 1073741824#32) Finset.univ
      = BitVec.ofNat 32 (firstMax f).val := by
  subst ht
  obtain ⟨h1, h2, h3⟩ := fold_minsi_spec (fun x : Fin (n + 1) => @ite _ (f x = top f) (dec x) (BitVec.ofNat 32 x.val) 1073741824#32) Finset.univ 2147483647#32
  have hb : ∀ x : Fin (n + 1), (BitVec.ofNat 32 x.val).toInt = x.val := fun x => toInt_ofNat (by have := x.isLt; omega)
  have hm := h2 (firstMax f) (Finset.mem_univ _)
  rw [if_pos (show f (firstMax f) = top f from rfl), hb] at hm
  have hlt := (firstMax f).isLt
  rcases h3 with h3 | ⟨i, -, h3⟩
  · rw [h3] at hm
    have : (2147483647#32 : BitVec 32).toInt = 2147483647 := by decide
    omega
  · by_cases hi : f i = top f
    · rw [if_pos hi] at h3
      rw [h3, hb] at hm
      rw [h3]
      have hle : i ≤ firstMax f := by exact_mod_cast hm
      rcases lt_or_eq_of_le hle with h | h
      · exact absurd hi (ne_of_lt ((firstMax_spec f).2 i h))
      · rw [h]
    · rw [if_neg hi] at h3
      rw [h3] at hm
      have : (1073741824#32 : BitVec 32).toInt = 1073741824 := by decide
      omega

/-- The greatest marked index, as a signed maximum: minus one where nothing is marked. -/
theorem fold_last {n : ℕ} (hn : n < 2 ^ 30) (c : Fin (n + 1) → Prop) (dec : ∀ x, Decidable (c x)) :
    ((∀ x, ¬ c x) → Finset.fold IntOp.maxsi 2147483648#32 (fun x : Fin (n + 1) => @ite _ (c x) (dec x) (BitVec.ofNat 32 x.val) 4294967295#32) Finset.univ = 4294967295#32)
    ∧ ∀ w, c w → (∀ x, c x → x ≤ w) →
      Finset.fold IntOp.maxsi 2147483648#32 (fun x : Fin (n + 1) => @ite _ (c x) (dec x) (BitVec.ofNat 32 x.val) 4294967295#32) Finset.univ = BitVec.ofNat 32 w.val := by
  obtain ⟨h1, h2, h3⟩ := SortNet.fold_maxsi_spec (fun x : Fin (n + 1) => @ite _ (c x) (dec x) (BitVec.ofNat 32 x.val) 4294967295#32) Finset.univ 2147483648#32
  have hb : ∀ x : Fin (n + 1), (BitVec.ofNat 32 x.val).toInt = x.val := fun x => toInt_ofNat (by have := x.isLt; omega)
  have e1 : (2147483648#32 : BitVec 32).toInt = -2147483648 := by decide
  have e2 : (4294967295#32 : BitVec 32).toInt = -1 := by decide
  constructor
  · intro hc
    rcases h3 with h3 | ⟨i, -, h3⟩
    · have := h2 0 (Finset.mem_univ _)
      rw [if_neg (hc 0), h3, e1, e2] at this
      omega
    · rw [h3, if_neg (hc i)]
  · intro w hw hle
    have hm := h2 w (Finset.mem_univ _)
    rw [if_pos hw, hb] at hm
    rcases h3 with h3 | ⟨i, -, h3⟩
    · rw [h3, e1] at hm; omega
    · by_cases hi : c i
      · rw [if_pos hi] at h3
        rw [h3, hb] at hm
        rw [h3]
        have hge : w ≤ i := by exact_mod_cast hm
        rw [le_antisymm (hle i hi) hge]
      · rw [if_neg hi] at h3
        rw [h3, e2] at hm; omega

/-- A word sum with one entry marked is that entry. -/
theorem fold_pick {n : ℕ} (k : Fin n) (g : Fin n → BitVec 32) (dec : ∀ x, Decidable (k = x)) :
    Finset.fold IntOp.addi 0#32 (fun x : Fin n => @ite _ (k = x) (dec x) (g x) 0#32) Finset.univ = g k := by
  have h : ∀ s : Finset (Fin n), Finset.fold IntOp.addi 0#32 (fun x : Fin n => @ite _ (k = x) (dec x) (g x) 0#32) s
      = if k ∈ s then g k else 0#32 := by
    intro s
    induction s using Finset.induction_on with
    | empty => simp
    | insert a s has ih =>
      rw [Finset.fold_insert has, ih]
      by_cases hk : k = a
      · subst hk
        rw [if_pos rfl, if_neg has, if_pos (Finset.mem_insert_self k s)]
        simp [IntOp.addi]
      · rw [if_neg hk]
        simp [IntOp.addi, hk]
  rw [h, if_pos (Finset.mem_univ k)]

/-- A sum with one entry marked is that entry. -/
theorem sum_pick {n : ℕ} (k : Fin n) (g : Fin n → EReal) (dec : ∀ x, Decidable (k = x)) :
    (∑ x : Fin n, @ite _ (k = x) (dec x) (g x) 0) = g k := by
  rw [Finset.sum_eq_single k (fun x _ hx => if_neg (Ne.symm hx)) (fun h => absurd (Finset.mem_univ k) h), if_pos rfl]

/-- A word sum of marks is the number of marked entries. -/
theorem fold_count {n : ℕ} (c : Fin n → Prop) (dec : ∀ x, Decidable (c x)) :
    Finset.fold IntOp.addi 0#32 (fun x : Fin n => BitVec.setWidth 32 (BitVec.ofBool (@decide (c x) (dec x)))) Finset.univ
      = BitVec.ofNat 32 (Finset.univ.filter c).card := by
  have h : ∀ s : Finset (Fin n), Finset.fold IntOp.addi 0#32 (fun x : Fin n => BitVec.setWidth 32 (BitVec.ofBool (@decide (c x) (dec x)))) s
      = BitVec.ofNat 32 (s.filter c).card := by
    intro s
    induction s using Finset.induction_on with
    | empty => simp
    | insert a s has ih =>
      rw [Finset.fold_insert has, ih]
      by_cases hc : c a
      · rw [Finset.filter_insert, if_pos hc, Finset.card_insert_of_notMem (by simp [has])]
        simp only [hc, decide_true]
        apply BitVec.eq_of_toNat_eq
        simp [IntOp.addi, BitVec.toNat_add]
        omega
      · rw [Finset.filter_insert, if_neg hc]
        simp [IntOp.addi, hc]
  exact h _

/-- The largest entry of a row with one entry kept and zeros elsewhere, when the kept entry is not negative. -/
theorem fold_one {n : ℕ} (hn : n < 2 ^ 31) (k : Fin n) (v : Fin n → EReal) (hv : 0 ≤ v k) :
    Finset.fold max (⊥ : EReal) (fun x : Fin n => if BitVec.ofNat 32 x.val = BitVec.ofNat 32 k.val then v x else 0) Finset.univ = v k := by
  apply le_antisymm
  · rw [Finset.fold_max_le]
    refine ⟨bot_le, fun x _ => ?_⟩
    by_cases h : BitVec.ofNat 32 x.val = BitVec.ofNat 32 k.val
    · have : x = k := Fin.ext ((ofNat_inj (by have := x.isLt; omega) (by have := k.isLt; omega)).1 h)
      rw [if_pos h, this]
    · rw [if_neg h]; exact hv
  · rw [Finset.le_fold_max]
    exact Or.inr ⟨k, Finset.mem_univ _, by rw [if_pos rfl]⟩

/-- A property kept by every step of a loop holds after it. -/
theorem foldl_inv {n : ℕ} {σ : Type} (g : Fin n → σ → σ) (P : ℕ → σ → Prop) (init : σ) (h0 : P 0 init)
    (hs : ∀ (i : Fin n) x, P i.val x → P (i.val + 1) (g i x)) : P n ((List.finRange n).foldl (fun acc k => g k acc) init) := by
  induction n with
  | zero => simpa using h0
  | succ n ih =>
    rw [List.finRange_succ_last, List.foldl_append, List.foldl_map]
    exact hs (Fin.last n) _ (ih (fun k => g k.castSucc) fun i x hx => hs i.castSucc x hx)

theorem three : Ideal.ofBits .f32 1077936128#32 = ((3 : ℝ) : EReal) := by
  simp [Ideal.ofBits, Ideal.ieee, -EReal.coe_mul]; norm_num

/-- Three times a count, as a word. -/
theorem three_mul_word (N : ℕ) (hN : N ≤ 8732) :
    FloatOps.fptosi (F := Ideal) (φ := .f32) 32 (Ideal.ofBits .f32 1077936128#32 * ((N : ℝ) : EReal)) = BitVec.ofNat 32 (3 * N) := by
  rw [three, ← EReal.coe_mul]
  show BitVec.ofInt 32 (max _ (min _ (if 0 ≤ (3 : ℝ) * (N : ℝ) then ⌊(3 : ℝ) * (N : ℝ)⌋ else _))) = _
  rw [if_pos (by positivity), show (3 : ℝ) * (N : ℝ) = ((3 * N : ℤ) : ℝ) by push_cast; rfl, Int.floor_intCast]
  rw [min_eq_right (by norm_num; omega), max_eq_right (by norm_num; omega)]
  rw [show (3 * N : ℤ) = ((3 * N : ℕ) : ℤ) by push_cast; rfl, BitVec.ofInt_natCast]

/-- Counts compare as words as they do as numbers. -/
theorem select_sge_ofNat {α : Type} {a b : ℕ} (ha : a < 2 ^ 31) (hb : b < 2 ^ 31) (x y : α) :
    Scalar.select (IntOp.cmpi .sge (BitVec.ofNat 32 a) (BitVec.ofNat 32 b)) x y = if b ≤ a then x else y := by
  unfold Scalar.select IntOp.cmpi
  have : (BitVec.ofNat 32 b).sle (BitVec.ofNat 32 a) = decide (b ≤ a) := by
    rw [BitVec.sle, toInt_ofNat ha, toInt_ofNat hb]
    simp
  simp only [this]
  by_cases h : b ≤ a <;> simp [h]

theorem select_sgt_ofNat {α : Type} {a b : ℕ} (ha : a < 2 ^ 31) (hb : b < 2 ^ 31) (x y : α) :
    Scalar.select (IntOp.cmpi .sgt (BitVec.ofNat 32 a) (BitVec.ofNat 32 b)) x y = if b < a then x else y := by
  unfold Scalar.select IntOp.cmpi
  have : (BitVec.ofNat 32 b).slt (BitVec.ofNat 32 a) = decide (b < a) := by
    rw [BitVec.slt, toInt_ofNat ha, toInt_ofNat hb]
    simp
  simp only [this]
  by_cases h : b < a <;> simp [h]

/-- The difference of two counts as a float. -/
theorem sub_word {a b : ℕ} (ha : a < 2 ^ 30) (hb : b < 2 ^ 30) :
    FloatOps.sitofp (F := Ideal) .f32 (IntOp.subi (BitVec.ofNat 32 a) (BitVec.ofNat 32 b)) = (((a : ℝ) - (b : ℝ) : ℝ) : EReal) := by
  show ((((BitVec.ofNat 32 a - BitVec.ofNat 32 b).toInt : ℤ) : ℝ) : EReal) = _
  rw [BitVec.toInt_sub, toInt_ofNat (by omega), toInt_ofNat (by omega)]
  rw [Int.bmod_eq_of_le (by norm_num; omega) (by norm_num; omega)]
  push_cast
  rfl

end Cert.Folds

end

end
-- ==== Proof.KMatch.lean ====
module

public import proofs.«01_k».proof.Proof.Folds
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KMatch

open Idealize.ShloMosaic Idealize.ShloMosaic.TcCoe Idealize.SL.Sem Cert.KernelIdeal Cert.KernelIdeal.Gen Cert.Spec Cert.Folds

variable (x0 : Vec Ideal S1x16x4 .f32) (x1 : Vec Ideal S1x16x1 .i32) (x2 : Vec Ideal S4x8732 .f32) (x3 : Vec Ideal S1x4x8732 .f32)

/-- The boxes, priors, labels and predicted offsets of the block on plain indices. -/
def bx (o : Fin 16) (c : Fin 4) : EReal := x0 (ix3 0 o c)
def pr (p : Fin 8732) (c : Fin 4) : EReal := x2 (ix2 c p)
def lb (o : Fin 16) : BitVec 32 := x1 (ix3 0 o 0)
def lc (p : Fin 8732) (c : Fin 4) : EReal := x3 (ix3 0 c p)

/-- The overlaps the block computes. -/
def ovArr : FVec Ideal S16x8732 .f32 :=
  k0_pay18 (k0_pay34 x0 x1 x2 x3) (k0_pay35 x0 x1 x2 x3) (k0_pay36 x0 x1 x2 x3) (k0_pay37 x0 x1 x2 x3) (k0_pay39 x0 x1 x2 x3) (k0_pay40 x0 x1 x2 x3) (k0_pay41 x0 x1 x2 x3) (k0_pay42 x0 x1 x2 x3) (k0_pay43 x0 x1 x2 x3) (k0_pay44 x0 x1 x2 x3)

theorem ov_at (o : Fin 16) (p : Fin 8732) : ovArr x0 x1 x2 x3 (ix2 o p) = iou (bx x0 o) (pr x2 p) := by
  pointwise [ovArr, k0_pay18, k0_pay34, k0_pay35, k0_pay36, k0_pay37, k0_pay38, k0_pay39, k0_pay40, k0_pay41, k0_pay42, k0_pay43, k0_pay44, k0_pay3, k0_pay4, k0_pay5, k0_pay6, k0_pay7, k0_pay8, k0_pay9, k0_pay10, k0_pay11, k0_pay12, k0_pay13, k0_pay14, k0_pay15, k0_pay16, k0_pay17, iou, inter, side, areaB, areaP, upper, lower, bx, pr]
  have z : (((0#32).toInt : ℝ) : EReal) = 0 := by simp
  rw [z]

section Arr

variable (v2 v3 v4 v5 : FVec Ideal S16x1 .f32) (v16 v19 v22 v25 : FVec Ideal S1x8732 .f32) (v35 v42 : FVec Ideal S16x8732 .f32)
variable (B : Fin 16 → Fin 4 → EReal) (Q : Fin 8732 → Fin 4 → EReal)
variable (hA : ∀ o p, k0_pay18 v2 v3 v4 v5 v16 v19 v22 v25 v35 v42 (ix2 o p) = iou (B o) (Q p))

include hA

theorem pay19_at (p : Fin 8732) : k0_pay19 v2 v3 v4 v5 v16 v19 v22 v25 v35 v42 (ix2 0 p) = top fun o => iou (B o) (Q p) := by
  pointwise [k0_pay19, hA]
  rw [negInf]
  exact fold_top _

theorem pay20_none (p : Fin 8732) (h : ¬ Forced B Q p) : k0_pay20 v2 v3 v4 v5 v16 v19 v22 v25 v35 v42 (ix2 0 p) = 4294967295#32 := by
  pointwise [k0_pay20, hA]
  simp only [negInf, fold_top, fold_first (show 8731 < 2 ^ 30 by norm_num) _ _ rfl, select_eq]
  refine (fold_last (n := 15) (by norm_num) _ _).1 fun o ho => h ⟨o, ?_⟩
  exact Fin.ext ((ofNat_inj (by have := (firstMax fun q => iou (B o) (Q q)).isLt; omega) (by have := p.isLt; omega)).1 ho)

theorem pay20_some (p : Fin 8732) (h : Forced B Q p) :
    k0_pay20 v2 v3 v4 v5 v16 v19 v22 v25 v35 v42 (ix2 0 p) = BitVec.ofNat 32 (winner B Q p h).val := by
  pointwise [k0_pay20, hA]
  simp only [negInf, fold_top, fold_first (show 8731 < 2 ^ 30 by norm_num) _ _ rfl, select_eq]
  have key : ∀ o, BitVec.ofNat 32 (firstMax fun q => iou (B o) (Q q)).val = BitVec.ofNat 32 p.val ↔ prior B Q o = p := fun o => by
    rw [ofNat_inj (by have := (firstMax fun q => iou (B o) (Q q)).isLt; omega) (by have := p.isLt; omega)]
    exact ⟨fun e => Fin.ext e, fun e => congrArg Fin.val e⟩
  exact (fold_last (n := 15) (by norm_num) _ _).2 (winner B Q p h) ((key _).2 (winner_spec B Q p h))
    fun o ho => le_winner B Q p h o ((key o).1 ho)

theorem pay21_at {α : Type} (p : Fin 8732) (x y : α) :
    Scalar.select (k0_pay21 v2 v3 v4 v5 v16 v19 v22 v25 v35 v42 (ix2 0 p)) x y = open Classical in if Forced B Q p then x else y := by
  pointwise [k0_pay21]
  rw [select_sge]
  by_cases h : Forced B Q p
  · rw [pay20_some v2 v3 v4 v5 v16 v19 v22 v25 v35 v42 B Q hA p h, if_pos h, if_pos]
    rw [toInt_ofNat (by have := (winner B Q p h).isLt; omega)]
    exact Int.natCast_nonneg _
  · rw [pay20_none v2 v3 v4 v5 v16 v19 v22 v25 v35 v42 B Q hA p h, if_neg h, if_neg (by decide)]

theorem pay22_at (p : Fin 8732) : k0_pay22 v2 v3 v4 v5 v16 v19 v22 v25 v35 v42 (ix2 0 p) = overlap B Q p := by
  pointwise [k0_pay22]
  rw [pay21_at v2 v3 v4 v5 v16 v19 v22 v25 v35 v42 B Q hA, pay19_at v2 v3 v4 v5 v16 v19 v22 v25 v35 v42 B Q hA]
  simp [overlap]

theorem pay23_at {α : Type} (o : Fin 16) (p : Fin 8732) (x y : α) :
    Scalar.select (k0_pay23 v2 v3 v4 v5 v16 v19 v22 v25 v35 v42 (ix2 o p)) x y = if obj B Q p = o then x else y := by
  pointwise [k0_pay23, hA]
  rw [pay21_at v2 v3 v4 v5 v16 v19 v22 v25 v35 v42 B Q hA, pay19_at v2 v3 v4 v5 v16 v19 v22 v25 v35 v42 B Q hA,
    fold_first (n := 15) (by norm_num) (fun o => iou (B o) (Q p)) _ rfl, select_eq]
  have e : (open Classical in if Forced B Q p then k0_pay20 v2 v3 v4 v5 v16 v19 v22 v25 v35 v42 (ix2 0 p)
      else BitVec.ofNat 32 (firstMax fun o => iou (B o) (Q p)).val) = BitVec.ofNat 32 (obj B Q p).val := by
    by_cases h : Forced B Q p
    · rw [if_pos h, pay20_some v2 v3 v4 v5 v16 v19 v22 v25 v35 v42 B Q hA p h, obj, dif_pos h]
    · rw [if_neg h, obj, dif_neg h]
  rw [e]
  have e2 : BitVec.ofNat 32 (obj B Q p).val = BitVec.ofNat 32 o.val ↔ obj B Q p = o := by
    rw [ofNat_inj (by have := (obj B Q p).isLt; omega) (by have := o.isLt; omega)]
    exact ⟨fun e => Fin.ext e, fun e => congrArg Fin.val e⟩
  simp only [e2]

end Arr

section Pick

variable (B : Fin 16 → Fin 4 → EReal) (Q : Fin 8732 → Fin 4 → EReal) (v88 : IVec S16x8732 1)
variable (h88 : ∀ {α : Type} (o : Fin 16) (p : Fin 8732) (x y : α), Scalar.select (v88 (ix2 o p)) x y = if obj B Q p = o then x else y)

include h88

theorem pay24_at (v86 : FVec Ideal S1x8732 .f32) (h86 : ∀ p, v86 (ix2 0 p) = overlap B Q p) (v89 : Vec Ideal S1x16x1 .i32) (p : Fin 8732) :
    k0_pay24 v86 v88 v89 (ix2 0 p) = cls B Q (lb v89) p := by
  pointwise [k0_pay24]
  simp only [h86, h88]
  rw [fold_pick (obj B Q p) fun o => v89 (ix3 0 o 0)]
  rfl

theorem pay25_at (v2 : FVec Ideal S16x1 .f32) (p : Fin 8732) : k0_pay25 v2 v88 (ix2 0 p) = v2 (ix2 (obj B Q p) 0) := by
  pointwise [k0_pay25]
  simp only [h88]
  exact sum_pick (obj B Q p) _ _

theorem pay26_at (v2 : FVec Ideal S16x1 .f32) (p : Fin 8732) : k0_pay26 v2 v88 (ix2 0 p) = v2 (ix2 (obj B Q p) 0) := by
  pointwise [k0_pay26]
  simp only [h88]
  exact sum_pick (obj B Q p) _ _

theorem pay27_at (v2 : FVec Ideal S16x1 .f32) (p : Fin 8732) : k0_pay27 v2 v88 (ix2 0 p) = v2 (ix2 (obj B Q p) 0) := by
  pointwise [k0_pay27]
  simp only [h88]
  exact sum_pick (obj B Q p) _ _

theorem pay28_at (v2 : FVec Ideal S16x1 .f32) (p : Fin 8732) : k0_pay28 v2 v88 (ix2 0 p) = v2 (ix2 (obj B Q p) 0) := by
  pointwise [k0_pay28]
  simp only [h88]
  exact sum_pick (obj B Q p) _ _

end Pick

/-- The mark of a word as a float is one where the word is not zero. -/
theorem ind_word (l : BitVec 32) : FloatOps.sitofp (F := Ideal) .f32 (BitVec.setWidth 32 (IntOp.cmpi .ne l 0#32)) = ind l := by
  unfold IntOp.cmpi ind
  show (((BitVec.setWidth 32 _).toInt : ℝ) : EReal) = _
  by_cases h : l = 0#32
  · simp [h]
  · have : (l != 0#32) = true := by simpa using h
    rw [if_neg h]
    simp only [this]
    rw [show (BitVec.setWidth 32 (BitVec.ofBool true)).toInt = 1 by decide]
    norm_num

theorem pay32_at (v100 : IVec S1x8732 32) (p : Fin 8732) : k0_pay32 (F := Ideal) v100 (ix2 0 p) = ind (v100 (ix2 0 p)) := by
  pointwise [k0_pay32]
  exact ind_word _

theorem pay45_at {α : Type} (o : Fin 16) (p : Fin 8732) (x y : α) :
    Scalar.select (k0_pay45 x0 x1 x2 x3 (ix2 o p)) x y = if obj (bx x0) (pr x2) p = o then x else y :=
  pay23_at _ _ _ _ _ _ _ _ _ _ _ _ (ov_at x0 x1 x2 x3) o p x y

/-- The class the block gives to a prior. -/
theorem pay46_at (p : Fin 8732) : k0_pay46 x0 x1 x2 x3 (ix2 0 p) = cls (bx x0) (pr x2) (lb x1) p := by
  unfold k0_pay46
  rw [pay24_at (bx x0) (pr x2) _ (fun {α} => pay45_at x0 x1 x2 x3) _ (pay22_at _ _ _ _ _ _ _ _ _ _ _ _ (ov_at x0 x1 x2 x3))]
  have e : lb (View.ld x1 r0_5) = lb x1 := funext fun o => by
    unfold lb
    pointwise
  rw [e]

/-- The block's sum of offset errors over the priors that have an object. -/
theorem pay33_at :
    k0_pay33 (k0_pay9 (View.ld x2 r0_2)) (k0_pay38 x0 x1 x2 x3) (k0_pay11 (View.ld x2 r0_4))
              (k0_pay46 x0 x1 x2 x3) (k0_pay25 (k0_pay34 x0 x1 x2 x3) (k0_pay45 x0 x1 x2 x3))
              (k0_pay26 (k0_pay35 x0 x1 x2 x3) (k0_pay45 x0 x1 x2 x3))
              (k0_pay27 (k0_pay36 x0 x1 x2 x3) (k0_pay45 x0 x1 x2 x3))
              (k0_pay28 (k0_pay37 x0 x1 x2 x3) (k0_pay45 x0 x1 x2 x3))
              (k0_pay29 (k0_pay34 x0 x1 x2 x3) (k0_pay36 x0 x1 x2 x3) (k0_pay8 (View.ld x2 r0_1)) (k0_pay38 x0 x1 x2 x3)
                (k0_pay45 x0 x1 x2 x3))
              (k0_pay30 (k0_pay35 x0 x1 x2 x3) (k0_pay37 x0 x1 x2 x3) (k0_pay45 x0 x1 x2 x3)) k0_pay31 (View.ld x3 r0_6)
              (View.ld x3 r0_7) (View.ld x3 r0_8) (View.ld x3 r0_9)
      = ∑ p, offset (bx x0) (pr x2) (lc x3) p * ind (cls (bx x0) (pr x2) (lb x1) p) := by
  pointwise [k0_pay33, k0_pay29, k0_pay30, k0_pay31, pay32_at, pay46_at, pay25_at (bx x0) (pr x2) _ (fun {α} => pay45_at x0 x1 x2 x3), pay26_at (bx x0) (pr x2) _ (fun {α} => pay45_at x0 x1 x2 x3), pay27_at (bx x0) (pr x2) _ (fun {α} => pay45_at x0 x1 x2 x3), pay28_at (bx x0) (pr x2) _ (fun {α} => pay45_at x0 x1 x2 x3), k0_pay34, k0_pay35, k0_pay36, k0_pay37, k0_pay38, k0_pay4, k0_pay5, k0_pay6, k0_pay7, k0_pay8, k0_pay9, k0_pay10, k0_pay11, k0_pay3]
  rw [Fin.sum_univ_one]
  rfl

theorem hz : (![0, 0, 0] : Fin 3 → Nat) = fun _ => 0 := funext fun a => by fin_cases a <;> rfl

/-- The classes of the block's priors. -/
theorem out4_at (p : Fin 8732) : out0_4 x0 x1 x2 x3 (ix3 0 0 p) = cls (bx x0) (pr x2) (lb x1) p := by
  unfold out0_4 r0_10
  rw [View.canon_unit_zero hz]
  pointwise [k0_pay1]
  exact pay46_at x0 x1 x2 x3 p

/-- The block's sum of offset errors. -/
theorem out5_loc : out0_5 x0 x1 x2 x3 (ix3 0 0 0) = ∑ p, offset (bx x0) (pr x2) (lc x3) p * ind (cls (bx x0) (pr x2) (lb x1) p) := by
  unfold out0_5 r0_11
  rw [View.canon_unit_zero hz]
  pointwise [k0_pay2]
  exact pay33_at x0 x1 x2 x3

/-- The block's count of priors that have an object. -/
theorem out5_pos : out0_5 x0 x1 x2 x3 (ix3 0 0 1) = ∑ p, ind (cls (bx x0) (pr x2) (lb x1) p) := by
  unfold out0_5 r0_11
  rw [View.canon_unit_zero hz]
  pointwise [k0_pay2]
  rw [Fin.sum_univ_one]
  exact Finset.sum_congr rfl fun p _ => by rw [pay32_at, pay46_at]

end Cert.KMatch

end

end
-- ==== Proof.KCe.lean ====
module

public import proofs.«01_k».proof.Proof.Folds
public import proofs.«01_k».proof.Proof.Gen.KernelIdeal.Frame
public import Idealize.ShloMosaic.Lib.Pointwise
public import Idealize.ShloMosaic.Lib.Pipeline.ValueKit

@[expose] public section

set_option maxRecDepth 16384

noncomputable section

/-! What one block of the classification kernel computes: the loss of each background row, and the sum of the losses of the
    rows that have an object. -/

namespace Cert.KCe

open Idealize.ShloMosaic Idealize.ShloMosaic.TcCoe Idealize.SL.Sem Cert.KernelIdeal Cert.KernelIdeal.Gen Cert.Spec Cert.Folds

variable (x0 : Vec Ideal S2368x81 .f32) (x1 : Vec Ideal S1x1x2368 .i32)

/-- The scores of a row of the block. -/
def sc (r : Fin 2368) (c : Fin 81) : EReal := x0 (ix2 r c)
/-- The class of a row of the block. -/
def lab (r : Fin 2368) : BitVec 32 := x1 (ix3 0 0 r)

/-- The loss of a row of the block at its class. -/
theorem pay2_at (r : Fin 2368) : k1_pay2 x0 x1 (ix2 0 r) = ce (sc x0 r) (lab x1 r) := by
  pointwise [k1_pay2, k1_pay1]
  simp only [select_eq]
  rfl

/-- The loss of a background row, zero elsewhere. -/
theorem pay4_at (r : Fin 2368) : k1_pay4 x0 x1 (ix3 0 0 r) = if lab x1 r = 0#32 then ce (sc x0 r) (lab x1 r) else 0 := by
  pointwise [k1_pay4, k1_pay3, k1_pay1, pay2_at]
  rw [select_ne]
  rfl

/-- The sum of the losses of the rows that have an object. -/
theorem pay5_at : k1_pay5 x0 x1 (ix3 0 0 0) = ∑ r, if lab x1 r = 0#32 then 0 else ce (sc x0 r) (lab x1 r) := by
  pointwise [k1_pay5, k1_pay3, k1_pay1, pay2_at]
  rw [Fin.sum_univ_one]
  simp only [select_ne]
  rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The losses of the block's background rows. -/
theorem out2_at (r : Fin 2368) : out1_2 x0 x1 (ix3 0 0 r) = if lab x1 r = 0#32 then ce (sc x0 r) (lab x1 r) else 0 := by
  unfold out1_2 r1_0 r1_1
  rw [View.canon_unit_zero hz3, View.ld_unit_zero hz2, View.ld_unit_zero hz3]
  exact pay4_at x0 x1 r

/-- The block's sum of the losses of the rows that have an object. -/
theorem out3_at : out1_3 x0 x1 (ix3 0 0 0) = ∑ r, if lab x1 r = 0#32 then 0 else ce (sc x0 r) (lab x1 r) := by
  unfold out1_3 r1_0 r1_1 r1_2
  rw [View.canon_unit_zero hz3, View.ld_unit_zero hz2, View.ld_unit_zero hz3]
  exact pay5_at x0 x1

end Cert.KCe

end

end
-- ==== Proof.Topk.lean ====
module

public import proofs.«01_k».proof.Proof.Spec

@[expose] public section

set_option maxRecDepth 16384

noncomputable section

/-! The sum of the `k` largest of a row of nonnegative values, from a threshold: the values above it, and the threshold
    itself as often as places are left. -/

namespace Cert.Topk

variable {n : ℕ} (v : Fin n → EReal) (k : ℕ)

/-- How many values are at least `x`. -/
def cnt (x : EReal) : ℕ := (Finset.univ.filter fun p => x ≤ v p).card
/-- How many values are above `x`. -/
def above (x : EReal) : ℕ := (Finset.univ.filter fun p => x < v p).card

/-- After the first `i` values were tried, `x` is zero or has `k` values from it on, and no tried value with `k` values
    from it on is greater. -/
def Tried (i : ℕ) (x : EReal) : Prop := (x = 0 ∨ k ≤ cnt v x) ∧ ∀ p : Fin n, p.val < i → k ≤ cnt v (v p) → v p ≤ x

theorem tried_zero : Tried v k 0 0 := ⟨Or.inl rfl, fun _ h => absurd h (Nat.not_lt_zero _)⟩

/-- Trying one more value. -/
theorem tried_succ (i : Fin n) (x : EReal) (h : Tried v k i.val x) :
    Tried v k (i.val + 1) (if k ≤ cnt v (max x (v i)) then max x (v i) else x) := by
  obtain ⟨h1, h2⟩ := h
  constructor
  · by_cases hc : k ≤ cnt v (max x (v i))
    · rw [if_pos hc]; exact Or.inr hc
    · rw [if_neg hc]; exact h1
  · intro p hp hk
    have hx : x ≤ (if k ≤ cnt v (max x (v i)) then max x (v i) else x) := by
      split
      · exact le_max_left _ _
      · exact le_refl _
    rcases Nat.lt_succ_iff_lt_or_eq.1 hp with hp | hp
    · exact le_trans (h2 p hp hk) hx
    · have : p = i := Fin.ext hp
      subst this
      by_cases hle : v p ≤ x
      · exact le_trans hle hx
      · rw [max_eq_right (le_of_lt (not_le.1 hle)), if_pos hk]

/-- The threshold of the `k` largest values: zero or with `k` values from it on, and no smaller than any such value. -/
def IsThr (t : EReal) : Prop := (t = 0 ∨ k ≤ cnt v t) ∧ ∀ p : Fin n, k ≤ cnt v (v p) → v p ≤ t

theorem Tried.isThr {i : ℕ} {x : EReal} (h : Tried v k i x) (hi : n ≤ i) : IsThr v k x := ⟨h.1, fun p => h.2 p (lt_of_lt_of_le p.isLt hi)⟩

variable (w : Fin n → EReal) (hw : Antitone w) (σ : Equiv.Perm (Fin n)) (hσ : ∀ r, w r = v (σ r))

include hσ in
theorem cnt_eq (x : EReal) : cnt w x = cnt v x := by
  unfold cnt
  refine Finset.card_equiv σ fun r => ?_
  simp [hσ]

include hσ in
theorem above_eq (x : EReal) : above w x = above v x := by
  unfold above
  refine Finset.card_equiv σ fun r => ?_
  simp [hσ]

include hw in
/-- In a falling row at least `r + 1` values are as large as the one at place `r`. -/
theorem lt_cnt (r : Fin n) : r.val < cnt w (w r) := by
  have : (Finset.univ.filter fun q : Fin n => q ≤ r) ⊆ Finset.univ.filter fun p => w r ≤ w p := by
    intro q hq
    simp only [Finset.mem_filter, Finset.mem_univ, true_and] at hq ⊢
    exact hw hq
  have h := Finset.card_le_card this
  rw [show (Finset.univ.filter fun q : Fin n => q ≤ r) = Finset.Iic r by ext; simp, Fin.card_Iic] at h
  exact h

include hw in
/-- In a falling row at most `r` values are larger than the one at place `r`. -/
theorem cnt_le (r : Fin n) (x : EReal) (hx : w r < x) : cnt w x ≤ r.val := by
  have : (Finset.univ.filter fun p => x ≤ w p) ⊆ Finset.univ.filter fun q : Fin n => q < r := by
    intro q hq
    simp only [Finset.mem_filter, Finset.mem_univ, true_and] at hq ⊢
    by_contra hc
    exact absurd (le_trans hq (hw (not_lt.1 hc))) (not_le.2 hx)
  have h := Finset.card_le_card this
  rw [show (Finset.univ.filter fun q : Fin n => q < r) = Finset.Iio r by ext; simp, Fin.card_Iio] at h
  exact h

include hw hσ in
/-- The sum of the first `k` values of the falling row is the sum of the values above the threshold plus the threshold
    for every place left. -/
theorem prefix_sum (hv : ∀ p, 0 ≤ v p) {t : EReal} (ht : IsThr v k t) :
    (∑ r : Fin n, if r.val < k then w r else 0)
      = (∑ p, if t < v p then v p else 0) + (((k : ℝ) - (above v t : ℝ) : ℝ) : EReal) * t := by
  have hA : ∀ r : Fin n, t < w r → r.val < k := fun r hr => by
    by_contra hc
    have h1 := lt_cnt w hw r
    have h2 : w r ≤ t := by
      rw [hσ]
      refine ht.2 (σ r) ?_
      rw [← hσ, ← cnt_eq v w σ hσ]
      omega
    exact absurd hr (not_lt.2 h2)
  have hB : ∀ r : Fin n, r.val < k → ¬ t < w r → w r = t := fun r hr hn => by
    refine le_antisymm (not_lt.1 hn) ?_
    rcases ht.1 with h | h
    · rw [h, hσ]; exact hv _
    · by_contra hc
      have := cnt_le w hw r t (not_le.1 hc)
      rw [cnt_eq v w σ hσ] at this
      omega
  have e1 : (∑ r : Fin n, if r.val < k then w r else 0)
      = (∑ r, if t < w r then w r else 0) + ∑ r : Fin n, if r.val < k ∧ ¬ t < w r then t else 0 := by
    rw [← Finset.sum_add_distrib]
    refine Finset.sum_congr rfl fun r _ => ?_
    by_cases h1 : t < w r
    · simp [h1, hA r h1]
    · by_cases h2 : r.val < k
      · simp [h1, h2, hB r h2 h1]
      · simp [h1, h2]
  have e2 : (∑ r, if t < w r then w r else 0) = ∑ p, if t < v p then v p else 0 :=
    Finset.sum_equiv σ (by simp) fun r _ => by rw [hσ]
  have e3 : (∑ r : Fin n, if r.val < k ∧ ¬ t < w r then t else 0) = (((k : ℝ) - (above v t : ℝ) : ℝ) : EReal) * t := by
    rw [← Finset.sum_filter, Finset.sum_const, EReal.nsmul_eq_mul]
    rcases ht.1 with h | h
    · rw [h]; simp
    · have hkn : k ≤ n := le_trans h (by unfold cnt; exact le_trans (Finset.card_filter_le _ _) (by simp))
      have hk : (Finset.univ.filter fun r : Fin n => r.val < k).card = k := by
        rcases Nat.lt_or_ge k n with hl | hl
        · rw [show (Finset.univ.filter fun r : Fin n => r.val < k) = Finset.Iio ⟨k, hl⟩ by ext; simp [Fin.lt_def], Fin.card_Iio]
        · rw [Finset.filter_true_of_mem (fun r _ => lt_of_lt_of_le r.isLt hl)]
          simp; omega
      have hs : (Finset.univ.filter fun r : Fin n => r.val < k ∧ ¬ t < w r).card + above w t = k := by
        refine Eq.trans ?_ hk
        rw [above, ← Finset.card_union_of_disjoint]
        · congr 1
          ext r
          simp only [Finset.mem_union, Finset.mem_filter, Finset.mem_univ, true_and]
          constructor
          · rintro (h | h)
            · exact h.1
            · exact hA r h
          · intro h
            by_cases h1 : t < w r
            · exact Or.inr h1
            · exact Or.inl ⟨h, h1⟩
        · rw [Finset.disjoint_left]
          intro r hr hr'
          simp only [Finset.mem_filter, Finset.mem_univ, true_and] at hr hr'
          exact hr.2 hr'
      rw [above_eq v w σ hσ] at hs
      congr 1
      rw [← EReal.coe_natCast]
      congr 1
      have : ((Finset.univ.filter fun r : Fin n => r.val < k ∧ ¬ t < w r).card : ℝ) + (above v t : ℝ) = (k : ℝ) := by exact_mod_cast hs
      linarith
  rw [e1, e2, e3]

end Cert.Topk

end

end
-- ==== Proof.KCombine.lean ====
module

public import proofs.«01_k».proof.Proof.Folds
public import proofs.«01_k».proof.Proof.Topk
public import proofs.«01_k».proof.Proof.Gen.KernelIdeal.Frame
public import Idealize.ShloMosaic.Lib.Pointwise
public import Idealize.ShloMosaic.Lib.Pipeline.ValueKit

@[expose] public section

set_option maxRecDepth 16384

noncomputable section

/-! What the combining kernel computes. -/

namespace Cert.KCombine

open Idealize.ShloMosaic Idealize.ShloMosaic.TcCoe Idealize.SL.Sem Cert.KernelIdeal Cert.KernelIdeal.Gen Cert.Spec Cert.Folds

theorem hz2 : (![0, 0] : Fin 2 → Nat) = fun _ => 0 := funext fun a => by fin_cases a <;> rfl
theorem hz3 : (![0, 0, 0] : Fin 3 → Nat) = fun _ => 0 := funext fun a => by fin_cases a <;> rfl

/-- The loop and the stores of the combining kernel as one expression of its three blocks. -/
theorem out_eq (c : Dev nD) (i : grid2.Coords) (arg1 : Memref sig .tc .vmem S64x8732 .f32) (h1 : arg1.IsWhole) (arg2 : Memref sig .tc .vmem S64x1x8 .f32) (h2 : arg2.IsWhole) (arg3 : Memref sig .tc .vmem S236x1x8 .f32) (h3 : arg3.IsWhole) (arg4 : Memref sig .tc .vmem S1x1 .f32) (h4 : arg4.IsWhole)
    (x0 : Vec Ideal S64x8732 .f32) (x1 : Vec Ideal S64x1x8 .f32) (x2 : Vec Ideal S236x1x8 .f32) :
    out2_A_3 c i arg1 h1 arg2 h2 arg3 h3 arg4 h4 x0 x1 x2
      = k2_pay1 (k2_pay4 x1) (k2_pay5 x1) (k2_pay9 x0 x1 (Scf.fold (k2_pay8 x0 x1) (k2_pay7 (F := Ideal)))) (k2_pay10 x2) := by
  unfold out2_A_3
  rw [View.read_writes_eq_canon _ _ _ (cover2_A_3 c i arg1 h1 arg2 h2 arg3 h3 arg4 h4 x0 x1 x2)]
  unfold kernelRun2_A
  dsimp only
  sl_unfold_words
  rw [View.canon_unit_zero hz2]
  simp only [View.readAt_eq_ld, h1.read_unread, h2.read_unread, h3.read_unread, View.ld_unit_zero (S := S64x8732) hz2, View.ld_unit_zero (S := S64x1x8) hz3, View.ld_unit_zero (S := S236x1x8) hz3]

variable (v0 : Vec Ideal S64x8732 .f32) (v3 : Vec Ideal S64x1x8 .f32)

/-- The losses of the background priors of image `b`. -/
def row (b : Fin 64) (p : Fin 8732) : EReal := v0 (ix2 b p)

/-- The sum of the `k` largest losses of a row, from a threshold `t`. -/
def hard (v : Fin 8732 → EReal) (k : ℕ) (t : EReal) : EReal :=
  if 0 < k then (∑ p, if t < v p then v p else 0) + (((k : ℝ) - (Topk.above v t : ℝ) : ℝ) : EReal) * t else 0

variable (N : Fin 64 → ℕ) (hN : ∀ b, N b ≤ 8732) (hv3 : ∀ b, v3 (ix3 b 0 1) = ((N b : ℝ) : EReal)) (hv0 : ∀ b p, 0 ≤ v0 (ix2 b p))

theorem cnt_lt (v : Fin 8732 → EReal) (x : EReal) : (Finset.univ.filter fun p => x ≤ v p).card < 2 ^ 31 :=
  lt_of_le_of_lt (Finset.card_filter_le _ _) (by simp)
theorem above_lt (v : Fin 8732 → EReal) (x : EReal) : (Finset.univ.filter fun p => x < v p).card < 2 ^ 30 :=
  lt_of_le_of_lt (Finset.card_filter_le _ _) (by simp)

include hN hv3 hv0

/-- One step of the search at image `b`: the loss of prior `k` is tried. -/
theorem pay8_at (k : Fin k2_t1_loop.trips) (p : Fin 8732) (hp : k.val = p.val) (x : FVec Ideal S64x1 .f32) (b : Fin 64) :
    k2_pay8 v0 v3 k x (ix2 b 0)
      = if 3 * N b ≤ Topk.cnt (row v0 b) (max (x (ix2 b 0)) (row v0 b p)) then max (x (ix2 b 0)) (row v0 b p) else x (ix2 b 0) := by
  have hb : 3 * N b < 2 ^ 31 := by have := hN b; omega
  have hiv : Scf.iv 0#32 1#32 k.val = BitVec.ofNat 32 p.val := by
    rw [hp]; simp [Scf.iv]
  pointwise [k2_pay8, k2_pay6, k2_pay5, k2_pay3, k2_pay2]
  rw [hv3, three_mul_word _ (hN b), hiv, negInf]
  simp only [select_eq]
  rw [fold_one (by norm_num) p (fun q => v0 (ix2 b q)) (hv0 b p), fold_count, select_sge_ofNat (cnt_lt (fun q => v0 (ix2 b q)) _) hb]
  rfl

/-- After the search the state of image `b` is the threshold of its losses. -/
theorem thr (b : Fin 64) :
    Topk.IsThr (row v0 b) (3 * N b) (Scf.fold (k2_pay8 v0 v3) (k2_pay7 (F := Ideal)) (ix2 b 0)) := by
  have ht : k2_t1_loop.trips = 8732 := by decide
  rw [Scf.fold_eq]
  have h := foldl_inv (k2_pay8 v0 v3) (fun i x => ∀ b, Topk.Tried (row v0 b) (3 * N b) i (x (ix2 b 0))) (k2_pay7 (F := Ideal))
    (fun b => by
      have : k2_pay7 (F := Ideal) (ix2 b 0) = 0 := by pointwise [k2_pay7]
      rw [this]
      exact Topk.tried_zero _ _)
    (fun i x hx b => by
      have hi : i.val < 8732 := by have := i.isLt; omega
      rw [pay8_at v0 v3 N hN hv3 hv0 i ⟨i.val, hi⟩ rfl]
      exact Topk.tried_succ (row v0 b) (3 * N b) ⟨i.val, hi⟩ _ (hx b))
  exact (h b).isThr _ _ (le_of_eq ht.symm)

/-- The sum of the hardest losses of image `b`. -/
theorem pay9_at (x : FVec Ideal S64x1 .f32) (b : Fin 64) : k2_pay9 v0 v3 x (ix2 b 0) = hard (row v0 b) (3 * N b) (x (ix2 b 0)) := by
  have hb : 3 * N b < 2 ^ 30 := by have := hN b; omega
  pointwise [k2_pay9, k2_pay6, k2_pay5, k2_pay3, k2_pay2]
  rw [hv3, three_mul_word _ (hN b)]
  show Scalar.select (IntOp.cmpi .sgt (BitVec.ofNat 32 (3 * N b)) (BitVec.ofNat 32 0))
      ((∑ q, if x (ix2 b 0) < row v0 b q then row v0 b q else 0)
        + FloatOps.sitofp (F := Ideal) .f32 (IntOp.subi (BitVec.ofNat 32 (3 * N b))
            (Finset.fold IntOp.addi 0#32 (fun q => BitVec.setWidth 32 (BitVec.ofBool (decide (x (ix2 b 0) < row v0 b q)))) Finset.univ))
          * x (ix2 b 0)) 0 = _
  rw [fold_count, sub_word hb (above_lt (row v0 b) _), select_sgt_ofNat (b := 0) (by omega) (by norm_num)]
  rfl

omit hN hv3 hv0

/-- The sum of the classification losses of the priors that have an object. -/
theorem pay10_at (v31 : Vec Ideal S236x1x8 .f32) : k2_pay10 v31 = ∑ t : Fin 236, v31 (ix3 t 0 0) := by
  pointwise [k2_pay10]
  exact Finset.sum_congr rfl fun t _ => Fin.sum_univ_one _

/-- The loss from its parts. -/
def total (conf pos cnt loc : EReal) : EReal := Ideal.div (conf + pos) cnt + Ideal.div loc (cnt * Ideal.ofBits .f32 1082130432#32)

theorem pay1_at (v6 : FVec Ideal S64x1 .f32) (v7 : FVec Ideal S64x1 .f32) (v30 : FVec Ideal S64x1 .f32) (v38 : EReal) :
    k2_pay1 v6 v7 v30 v38 (ix2 0 0) = total (∑ b : Fin 64, v30 (ix2 b 0)) v38 (∑ b : Fin 64, v7 (ix2 b 0)) (∑ b : Fin 64, v6 (ix2 b 0)) := by
  pointwise [k2_pay1]
  simp only [Fin.sum_univ_one]
  rfl

/-- The result of the combining kernel. -/
theorem out_at (c : Dev nD) (i : grid2.Coords) (arg1 : Memref sig .tc .vmem S64x8732 .f32) (h1 : arg1.IsWhole) (arg2 : Memref sig .tc .vmem S64x1x8 .f32) (h2 : arg2.IsWhole) (arg3 : Memref sig .tc .vmem S236x1x8 .f32) (h3 : arg3.IsWhole) (arg4 : Memref sig .tc .vmem S1x1 .f32) (h4 : arg4.IsWhole)
    (x2 : Vec Ideal S236x1x8 .f32)
    (N : Fin 64 → ℕ) (hN : ∀ b, N b ≤ 8732) (hv3 : ∀ b, v3 (ix3 b 0 1) = ((N b : ℝ) : EReal)) (hv0 : ∀ b p, 0 ≤ v0 (ix2 b p)) :
    ∃ t : Fin 64 → EReal, (∀ b, Topk.IsThr (row v0 b) (3 * N b) (t b)) ∧
      out2_A_3 c i arg1 h1 arg2 h2 arg3 h3 arg4 h4 v0 v3 x2 (ix2 0 0)
        = total (∑ b, hard (row v0 b) (3 * N b) (t b)) (∑ s : Fin 236, x2 (ix3 s 0 0)) (∑ b : Fin 64, v3 (ix3 b 0 1)) (∑ b : Fin 64, v3 (ix3 b 0 0)) := by
  refine ⟨fun b => Scf.fold (k2_pay8 v0 v3) (k2_pay7 (F := Ideal)) (ix2 b 0), thr v0 v3 N hN hv3 hv0, ?_⟩
  rw [out_eq, pay1_at, pay10_at]
  have e0 : ∀ b : Fin 64, k2_pay4 v3 (ix2 b 0) = v3 (ix3 b 0 0) := fun b => by pointwise [k2_pay4, k2_pay3]
  have e1 : ∀ b : Fin 64, k2_pay5 v3 (ix2 b 0) = v3 (ix3 b 0 1) := fun b => by pointwise [k2_pay5, k2_pay3]
  simp only [e0, e1, pay9_at v0 v3 N hN hv3 hv0]

end Cert.KCombine

end

end
-- ==== Proof.KArrays.lean ====
module

public import proofs.«01_k».proof.Proof.KMatch
public import proofs.«01_k».proof.Proof.KCe
public import proofs.«01_k».proof.Proof.KCombine

@[expose] public section

set_option maxRecDepth 16384

noncomputable section

/-! What each array holds after its kernel: the block facts carried to the whole arrays. -/

namespace Cert.KArrays

open Idealize.ShloMosaic Idealize.ShloMosaic.TcCoe Idealize.SL.Sem Cert.KernelIdeal Cert.KernelIdeal.Gen Cert.Spec

variable (V : (c : Dev nD) → (b : Ref sig .tc) → Buf (Elt Ideal) ((c : Thread nD τ).loc b)) (c : Dev nD)

/-- The boxes of an image, the priors, the labels and the predicted offsets of an image, as the match kernel finds them. -/
def boxes (b : Fin 64) (o : Fin 16) (k : Fin 4) : EReal := (V c main_arg2 : S64x16x4.Idx → EReal) (ix3 b o k)
def priors (p : Fin 8732) (k : Fin 4) : EReal := (V c main_v0 : S4x8732.Idx → EReal) (ix2 k p)
def labels (b : Fin 64) (o : Fin 16) : BitVec 32 := (V c main_v2 : S64x16x1.Idx → BitVec 32) (ix3 b o 0)
def preds (b : Fin 64) (p : Fin 8732) (k : Fin 4) : EReal := (V c main_v1 : S64x4x8732.Idx → EReal) (ix3 b k p)

theorem idx0 : ∀ t : Fin cfg0.N, win0_0.index t = ![t.val, 0, 0] ∧ win0_1.index t = ![t.val, 0, 0] ∧ win0_2.index t = ![0, 0]
    ∧ win0_3.index t = ![t.val, 0, 0] ∧ win0_4.index t = ![t.val, 0, 0] ∧ win0_5.index t = ![t.val, 0, 0] :=
  (by decide +kernel : ∀ t : Fin grid0.N, _)

/-- The grid point as an image. -/
def img (t : Fin cfg0.N) : Fin 64 := Fin.cast N_0 t

theorem bx_blk (t : Fin cfg0.N) : KMatch.bx (iblk0 V c 0 t) = boxes V c (img t) := by
  funext o k
  unfold KMatch.bx boxes img
  blk_ext! [iblk0, idx0 t]
  rfl
theorem pr_blk (t : Fin cfg0.N) : KMatch.pr (iblk0 V c 2 t) = priors V c := by
  funext o k
  unfold KMatch.pr priors
  blk_ext! [iblk0, idx0 t]
theorem lb_blk (t : Fin cfg0.N) : KMatch.lb (iblk0 V c 1 t) = labels V c (img t) := by
  funext o
  unfold KMatch.lb labels img
  blk_ext! [iblk0, idx0 t]
  rfl
theorem lc_blk (t : Fin cfg0.N) : KMatch.lc (iblk0 V c 3 t) = preds V c (img t) := by
  funext o k
  unfold KMatch.lc preds img
  blk_ext! [iblk0, idx0 t]
  rfl

/-- An image as a grid point. -/
def pt (b : Fin 64) : Fin cfg0.N := Fin.cast N_0.symm b

theorem arr0_4_blk : (dat0 V c).arrAt 4 cfg0.N = fun i : S64x1x8732.Idx =>
    out0_4 (iblk0 V c 0 (pt (i 0))) (iblk0 V c 1 (pt (i 0))) (iblk0 V c 2 (pt (i 0))) (iblk0 V c 3 (pt (i 0))) (ix3 0 0 (i 2)) := by
  refine (dat0 V c).arrAt_eq_of_covers 4 _ (by decide +kernel) fun t hf y => ?_
  blk_simp
  rw [after0_4]
  have e0 : pt ((win0_4.blk t).view.emb y 0) = t := Fin.ext (by
    show ((win0_4.blk t).view.emb y 0).val = t.val
    blk_simp [idx0 t])
  have e2 : (ix3 0 0 ((win0_4.blk t).view.emb y 2) : S1x1x8732.Idx) = y := by
    blk_ext! [idx0 t]
  show _ = out0_4 (iblk0 V c 0 (pt ((win0_4.blk t).view.emb y 0))) (iblk0 V c 1 (pt ((win0_4.blk t).view.emb y 0)))
    (iblk0 V c 2 (pt ((win0_4.blk t).view.emb y 0))) (iblk0 V c 3 (pt ((win0_4.blk t).view.emb y 0))) (ix3 0 0 ((win0_4.blk t).view.emb y 2) : S1x1x8732.Idx)
  rw [e0, e2]

/-- The classes array after the match kernel. -/
theorem arr0_4 (b : Fin 64) (p : Fin 8732) : (dat0 V c).arrAt 4 cfg0.N (ix3 b 0 p : S64x1x8732.Idx) = cls (boxes V c b) (priors V c) (labels V c b) p := by
  rw [arr0_4_blk]
  show out0_4 (iblk0 V c 0 (pt b)) (iblk0 V c 1 (pt b)) (iblk0 V c 2 (pt b)) (iblk0 V c 3 (pt b)) (ix3 0 0 p) = _
  rw [KMatch.out4_at, bx_blk, pr_blk, lb_blk]
  rfl

theorem arr0_5_blk : (dat0 V c).arrAt 5 cfg0.N = fun i : S64x1x8.Idx =>
    out0_5 (iblk0 V c 0 (pt (i 0))) (iblk0 V c 1 (pt (i 0))) (iblk0 V c 2 (pt (i 0))) (iblk0 V c 3 (pt (i 0))) (ix3 0 0 (i 2)) := by
  refine (dat0 V c).arrAt_eq_of_covers 5 _ (by decide +kernel) fun t hf y => ?_
  blk_simp
  rw [after0_5]
  have e0 : pt ((win0_5.blk t).view.emb y 0) = t := Fin.ext (by
    show ((win0_5.blk t).view.emb y 0).val = t.val
    blk_simp [idx0 t])
  have e2 : (ix3 0 0 ((win0_5.blk t).view.emb y 2) : S1x1x8.Idx) = y := by
    blk_ext! [idx0 t]
  show _ = out0_5 (iblk0 V c 0 (pt ((win0_5.blk t).view.emb y 0))) (iblk0 V c 1 (pt ((win0_5.blk t).view.emb y 0)))
    (iblk0 V c 2 (pt ((win0_5.blk t).view.emb y 0))) (iblk0 V c 3 (pt ((win0_5.blk t).view.emb y 0))) (ix3 0 0 ((win0_5.blk t).view.emb y 2) : S1x1x8.Idx)
  rw [e0, e2]

/-- The sums of offset errors after the match kernel. -/
theorem arr0_5_loc (b : Fin 64) : (dat0 V c).arrAt 5 cfg0.N (ix3 b 0 0 : S64x1x8.Idx)
    = ∑ p, offset (boxes V c b) (priors V c) (preds V c b) p * ind (cls (boxes V c b) (priors V c) (labels V c b) p) := by
  rw [arr0_5_blk]
  show out0_5 (iblk0 V c 0 (pt b)) (iblk0 V c 1 (pt b)) (iblk0 V c 2 (pt b)) (iblk0 V c 3 (pt b)) (ix3 0 0 0) = _
  rw [KMatch.out5_loc, bx_blk, pr_blk, lb_blk, lc_blk]
  rfl

/-- The counts of priors that have an object after the match kernel. -/
theorem arr0_5_pos (b : Fin 64) : (dat0 V c).arrAt 5 cfg0.N (ix3 b 0 1 : S64x1x8.Idx)
    = ∑ p, ind (cls (boxes V c b) (priors V c) (labels V c b) p) := by
  rw [arr0_5_blk]
  show out0_5 (iblk0 V c 0 (pt b)) (iblk0 V c 1 (pt b)) (iblk0 V c 2 (pt b)) (iblk0 V c 3 (pt b)) (ix3 0 0 1) = _
  rw [KMatch.out5_pos, bx_blk, pr_blk, lb_blk]
  rfl

/-- The scores and the class of row `r` of block `s` as the classification kernel finds them. -/
def scores (s : Fin 236) (r : Fin 2368) (k : Fin 81) : EReal :=
  (V c main_v4 : S558848x81.Idx → EReal) (ix2 ⟨s.val * 2368 + r.val, by omega⟩ k)
def classes (s : Fin 236) (r : Fin 2368) : BitVec 32 := (V c main_v5 : S236x1x2368.Idx → BitVec 32) (ix3 s 0 r)

theorem idx1 : ∀ t : Fin cfg1.N, win1_0.index t = ![t.val, 0] ∧ win1_1.index t = ![t.val, 0, 0] ∧ win1_2.index t = ![t.val, 0, 0]
    ∧ win1_3.index t = ![t.val, 0, 0] :=
  (by decide +kernel : ∀ t : Fin grid1.N, _)

/-- The grid point as a block of rows, and back. -/
def slab (t : Fin cfg1.N) : Fin 236 := Fin.cast N_1 t
def at1 (s : Fin 236) : Fin cfg1.N := Fin.cast N_1.symm s

theorem sc_blk (t : Fin cfg1.N) : KCe.sc (iblk1 V c 0 t) = scores V c (slab t) := by
  funext r k
  unfold KCe.sc scores slab
  blk_ext! [iblk1, idx1 t]
  rfl
theorem lab_blk (t : Fin cfg1.N) : KCe.lab (iblk1 V c 1 t) = classes V c (slab t) := by
  funext r
  unfold KCe.lab classes slab
  blk_ext! [iblk1, idx1 t]
  rfl

theorem arr1_2_blk : (dat1 V c).arrAt 2 cfg1.N = fun i : S236x1x2368.Idx =>
    out1_2 (iblk1 V c 0 (at1 (i 0))) (iblk1 V c 1 (at1 (i 0))) (ix3 0 0 (i 2)) := by
  refine (dat1 V c).arrAt_eq_of_covers 2 _ (by decide +kernel) fun t hf y => ?_
  blk_simp
  rw [after1_2]
  have e0 : at1 ((win1_2.blk t).view.emb y 0) = t := Fin.ext (by
    show ((win1_2.blk t).view.emb y 0).val = t.val
    blk_simp [idx1 t])
  have e2 : (ix3 0 0 ((win1_2.blk t).view.emb y 2) : S1x1x2368.Idx) = y := by
    blk_ext! [idx1 t]
  show _ = out1_2 (iblk1 V c 0 (at1 ((win1_2.blk t).view.emb y 0))) (iblk1 V c 1 (at1 ((win1_2.blk t).view.emb y 0)))
    (ix3 0 0 ((win1_2.blk t).view.emb y 2) : S1x1x2368.Idx)
  rw [e0, e2]

/-- The losses of the background rows after the classification kernel. -/
theorem arr1_2 (s : Fin 236) (r : Fin 2368) : (dat1 V c).arrAt 2 cfg1.N (ix3 s 0 r : S236x1x2368.Idx)
    = if classes V c s r = 0#32 then ce (scores V c s r) (classes V c s r) else 0 := by
  rw [arr1_2_blk]
  show out1_2 (iblk1 V c 0 (at1 s)) (iblk1 V c 1 (at1 s)) (ix3 0 0 r) = _
  rw [KCe.out2_at, sc_blk, lab_blk]
  rfl

theorem arr1_3_blk : (dat1 V c).arrAt 3 cfg1.N = fun i : S236x1x8.Idx =>
    out1_3 (iblk1 V c 0 (at1 (i 0))) (iblk1 V c 1 (at1 (i 0))) (ix3 0 0 (i 2)) := by
  refine (dat1 V c).arrAt_eq_of_covers 3 _ (by decide +kernel) fun t hf y => ?_
  blk_simp
  rw [after1_3]
  have e0 : at1 ((win1_3.blk t).view.emb y 0) = t := Fin.ext (by
    show ((win1_3.blk t).view.emb y 0).val = t.val
    blk_simp [idx1 t])
  have e2 : (ix3 0 0 ((win1_3.blk t).view.emb y 2) : S1x1x8.Idx) = y := by
    blk_ext! [idx1 t]
  show _ = out1_3 (iblk1 V c 0 (at1 ((win1_3.blk t).view.emb y 0))) (iblk1 V c 1 (at1 ((win1_3.blk t).view.emb y 0)))
    (ix3 0 0 ((win1_3.blk t).view.emb y 2) : S1x1x8.Idx)
  rw [e0, e2]

/-- The sums of the losses of the rows that have an object after the classification kernel. -/
theorem arr1_3 (s : Fin 236) : (dat1 V c).arrAt 3 cfg1.N (ix3 s 0 0 : S236x1x8.Idx)
    = ∑ r, if classes V c s r = 0#32 then 0 else ce (scores V c s r) (classes V c s r) := by
  rw [arr1_3_blk]
  show out1_3 (iblk1 V c 0 (at1 s)) (iblk1 V c 1 (at1 s)) (ix3 0 0 0) = _
  rw [KCe.out3_at, sc_blk, lab_blk]
  rfl

theorem idx2 : ∀ t : Fin cfg2.N, win2_0.index t = ![0, 0] ∧ win2_1.index t = ![0, 0, 0] ∧ win2_2.index t = ![0, 0, 0]
    ∧ win2_3.index t = ![0, 0] :=
  (by decide +kernel : ∀ t : Fin grid2.N, _)

theorem iblk2_0 : iblk2 V c 0 t2_0 = V c main_v7 := by
  blk_ext! [iblk2, idx2 t2_0]
theorem iblk2_1 : iblk2 V c 1 t2_0 = V c main_v3_1 := by
  blk_ext! [iblk2, idx2 t2_0]
theorem iblk2_2 : iblk2 V c 2 t2_0 = V c main_v6_1 := by
  blk_ext! [iblk2, idx2 t2_0]

/-- The result of the combining kernel over the arrays it finds. -/
theorem arr2_3 (v0 : S64x8732.Idx → EReal) (v3 : S64x1x8.Idx → EReal) (x2 : S236x1x8.Idx → EReal)
    (h0 : V c main_v7 = v0) (h3 : V c main_v3_1 = v3) (h2 : V c main_v6_1 = x2)
    (N : Fin 64 → ℕ) (hN : ∀ b, N b ≤ 8732) (hv3 : ∀ b, v3 (ix3 b 0 1) = ((N b : ℝ) : EReal)) (hv0 : ∀ b p, 0 ≤ v0 (ix2 b p)) :
    ∃ t : Fin 64 → EReal, (∀ b, Topk.IsThr (KCombine.row v0 b) (3 * N b) (t b)) ∧
      (dat2 V c).arrAt 3 cfg2.N (ix2 0 0 : S1x1.Idx)
        = KCombine.total (∑ b, KCombine.hard (KCombine.row v0 b) (3 * N b) (t b)) (∑ s : Fin 236, x2 (ix3 s 0 0)) (∑ b : Fin 64, v3 (ix3 b 0 1)) (∑ b : Fin 64, v3 (ix3 b 0 0)) := by
  have e : (dat2 V c).arrAt 3 cfg2.N = (outsAt2 V c t2_0 : S1x1.Idx → EReal) := by
    refine (dat2 V c).arrAt_eq_of_after_last 3 t2_0 (by decide +kernel) _ fun j => ?_
    blk_simp
    rw [after2_3]
  rw [e]
  unfold outsAt2
  rw [iblk2_0, iblk2_1, iblk2_2, h0, h3, h2]
  exact KCombine.out_at v0 v3 _ _ _ _ _ _ _ _ _ _ x2 N hN hv3 hv0

end Cert.KArrays

end

end
-- ==== Proof.KRun.lean ====
module

public import proofs.«01_k».proof.Proof.KArrays
public import Idealize.ShloMosaic.Lib.Claim
public import Idealize.ShloMosaic.Lib.StableHlo.ReadAt

@[expose] public section

set_option maxRecDepth 16384

noncomputable section

/-! The whole program's result as the sum of the loss's parts, over the five arguments. -/

namespace Cert.KRun

open Idealize.ShloMosaic Idealize.ShloMosaic.TcCoe Idealize.ShloMosaic.Tactic Idealize.SL Idealize.SL.RA Idealize.SL.BI Idealize.SL.ProofMode Idealize.SL.Sem Idealize.ShloMosaic.Rounds Cert.KernelIdeal Cert.KernelIdeal.Gen Cert.Spec
open Idealize.SL.BI.BIBase Idealize.SL.BI.Laws
open Idealize.ShloMosaic.Pipeline (cellOf)
open scoped Idealize.SL.BI

local notation "𝕄" => MT nD τ sig Unit (Elt Ideal) ℕ (UR sig nD τ) ℕ

variable (m : (ℓ : Loc nD τ sig) → Buf (Elt Ideal) ℓ) (ρ : Dev nD → PrngReg) (c : Dev nD)

/-- The arguments on plain indices: the predicted offsets, the scores, the boxes, the labels and the priors. -/
def aT (b : Fin 64) (p : Fin 8732) (k : Fin 4) : EReal := (m ((c : Thread nD τ).loc main_arg0) : S64x8732x4.Idx → EReal) (ix3 b p k)
def aS (b : Fin 64) (p : Fin 8732) (k : Fin 81) : EReal := (m ((c : Thread nD τ).loc main_arg1) : S64x8732x81.Idx → EReal) (ix3 b p k)
def aB (b : Fin 64) (o : Fin 16) (k : Fin 4) : EReal := (m ((c : Thread nD τ).loc main_arg2) : S64x16x4.Idx → EReal) (ix3 b o k)
def aL (b : Fin 64) (o : Fin 16) : BitVec 32 := (m ((c : Thread nD τ).loc main_arg3) : S64x16.Idx → BitVec 32) (ix2 b o)
def aP (p : Fin 8732) (k : Fin 4) : EReal := (m ((c : Thread nD τ).loc main_arg4) : S8732x4.Idx → EReal) (ix2 p k)

theorem boxes_eq (b : Fin 64) : KArrays.boxes (V1 m ρ) c b = aB m c b := by
  funext o k
  unfold KArrays.boxes aB
  rw [show V1 m ρ c main_arg2 = _ from W1_args m ρ c main_arg2 (by decide)]

theorem priors_eq : KArrays.priors (V1 m ρ) c = aP m c := by
  funext p k
  unfold KArrays.priors aP
  show (W1 m ρ c (Proc.devRef .tc main_v0) : S4x8732.Idx → EReal) _ = _
  after_reads_at

theorem preds_eq (b : Fin 64) : KArrays.preds (V1 m ρ) c b = aT m c b := by
  funext p k
  unfold KArrays.preds aT
  show (W1 m ρ c (Proc.devRef .tc main_v1) : S64x4x8732.Idx → EReal) _ = _
  after_reads_at

theorem labels_eq (b : Fin 64) : KArrays.labels (V1 m ρ) c b = aL m c b := by
  funext p
  unfold KArrays.labels aL
  show (W1 m ρ c (Proc.devRef .tc main_v2) : S64x16x1.Idx → BitVec 32) _ = _
  after_reads_at

/-- Row `r` of block `s` as an image and a prior. -/
def im (s : Fin 236) (r : Fin 2368) : Fin 64 := ⟨(s.val * 2368 + r.val) / 8732, by omega⟩
def col (s : Fin 236) (r : Fin 2368) : Fin 8732 := ⟨(s.val * 2368 + r.val) % 8732, by omega⟩
/-- A prior of an image as a row of a block. -/
def blk (b : Fin 64) (p : Fin 8732) : Fin 236 := ⟨(b.val * 8732 + p.val) / 2368, by omega⟩
def lane (b : Fin 64) (p : Fin 8732) : Fin 2368 := ⟨(b.val * 8732 + p.val) % 2368, by omega⟩

theorem im_blk (b : Fin 64) (p : Fin 8732) : im (blk b p) (lane b p) = b := by
  apply Fin.ext; simp only [im, blk, lane]; omega
theorem col_blk (b : Fin 64) (p : Fin 8732) : col (blk b p) (lane b p) = p := by
  apply Fin.ext; simp only [col, blk, lane]; omega
theorem blk_im (s : Fin 236) (r : Fin 2368) : blk (im s r) (col s r) = s := by
  apply Fin.ext; simp only [im, blk, col]; omega
theorem lane_im (s : Fin 236) (r : Fin 2368) : lane (im s r) (col s r) = r := by
  apply Fin.ext; simp only [im, lane, col]; omega

/-- A sum over the rows of the blocks is the sum over the priors of the images. -/
theorem sum_rows (f : Fin 64 → Fin 8732 → EReal) : ∑ s : Fin 236, ∑ r : Fin 2368, f (im s r) (col s r) = ∑ b, ∑ p, f b p := by
  rw [← Fintype.sum_prod_type', ← Fintype.sum_prod_type' f]
  exact Finset.sum_nbij' (fun x => (im x.1 x.2, col x.1 x.2)) (fun x => (blk x.1 x.2, lane x.1 x.2)) (fun _ _ => Finset.mem_univ _)
    (fun _ _ => Finset.mem_univ _) (fun x _ => Prod.ext (blk_im x.1 x.2) (lane_im x.1 x.2))
    (fun x _ => Prod.ext (im_blk x.1 x.2) (col_blk x.1 x.2)) (fun _ _ => rfl)

/-- The class of a prior of an image, and its classification loss. -/
def kc (b : Fin 64) (p : Fin 8732) : BitVec 32 := cls (aB m c b) (aP m c) (aL m c b) p
def kl (b : Fin 64) (p : Fin 8732) : EReal := ce (aS m c b p) (kc m c b p)
/-- The losses that the hardest negatives are chosen from. -/
def neg (b : Fin 64) (p : Fin 8732) : EReal := if kc m c b p = 0#32 then kl m c b p else 0

theorem scores_eq (s : Fin 236) (r : Fin 2368) : KArrays.scores (V3 m ρ) c s r = aS m c (im s r) (col s r) := by
  funext k
  unfold KArrays.scores aS
  show (W3 m ρ c (Proc.devRef .tc main_v4) : S558848x81.Idx → EReal) _ = _
  after_reads_at
  rw [W2_args m ρ c main_arg1 (by decide)]
  rfl

theorem classes_eq (s : Fin 236) (r : Fin 2368) : KArrays.classes (V3 m ρ) c s r = kc m c (im s r) (col s r) := by
  unfold KArrays.classes
  show (W3 m ρ c (Proc.devRef .tc main_v5) : S236x1x2368.Idx → BitVec 32) _ = _
  after_reads_at
  have e : W2 m ρ c (Proc.devRef .tc main_v3_0) = (dat0 (V1 m ρ) c).arrAt 4 cfg0.N := W2_arr m ρ c 4
  rw [e]
  refine (KArrays.arr0_4 (V1 m ρ) c (im s r) (col s r)).trans ?_
  rw [boxes_eq, priors_eq, labels_eq]
  rfl

theorem neg_eq (b : Fin 64) (p : Fin 8732) : (V5 m ρ c main_v7 : S64x8732.Idx → EReal) (ix2 b p) = neg m c b p := by
  show (W5 m ρ c (Proc.devRef .tc main_v7) : S64x8732.Idx → EReal) (ix2 b p) = _
  after_reads_at
  have e : W4 m ρ c (Proc.devRef .tc main_v6_0) = (dat1 (V3 m ρ) c).arrAt 2 cfg1.N := W4_arr m ρ c 2
  rw [e]
  refine (KArrays.arr1_2 (V3 m ρ) c (blk b p) (lane b p)).trans ?_
  rw [scores_eq, classes_eq, im_blk, col_blk]
  rfl

theorem conf_eq (s : Fin 236) : (V5 m ρ c main_v6_1 : S236x1x8.Idx → EReal) (ix3 s 0 0)
    = ∑ r : Fin 2368, if kc m c (im s r) (col s r) = 0#32 then (0 : EReal) else kl m c (im s r) (col s r) := by
  have e : V5 m ρ c main_v6_1 = (dat1 (V3 m ρ) c).arrAt 3 cfg1.N :=
    (W5_of m ρ c main_v6_1 (by decide)).trans (W4_arr m ρ c 3)
  refine (congrFun e (ix3 s 0 0)).trans ((KArrays.arr1_3 (V3 m ρ) c s).trans ?_)
  refine Finset.sum_congr (M := EReal) rfl fun r _ => ?_
  rw [scores_eq, classes_eq]
  rfl

theorem v31 : V5 m ρ c main_v3_1 = (dat0 (V1 m ρ) c).arrAt 5 cfg0.N :=
  (W5_of m ρ c main_v3_1 (by decide)).trans ((W4_of m ρ c main_v3_1 (by decide)).trans ((W3_of m ρ c main_v3_1 (by decide)).trans (W2_arr m ρ c 5)))

theorem loc_eq (b : Fin 64) : (V5 m ρ c main_v3_1 : S64x1x8.Idx → EReal) (ix3 b 0 0)
    = ∑ p, offset (aB m c b) (aP m c) (aT m c b) p * ind (kc m c b p) := by
  rw [v31]
  refine (KArrays.arr0_5_loc (V1 m ρ) c b).trans ?_
  rw [boxes_eq, priors_eq, labels_eq, preds_eq]
  rfl

theorem pos_eq (b : Fin 64) : (V5 m ρ c main_v3_1 : S64x1x8.Idx → EReal) (ix3 b 0 1) = ∑ p, ind (kc m c b p) := by
  rw [v31]
  refine (KArrays.arr0_5_pos (V1 m ρ) c b).trans ?_
  rw [boxes_eq, priors_eq, labels_eq]
  rfl

/-- How many priors of an image have an object. -/
def npos (b : Fin 64) : ℕ := (Finset.univ.filter fun p : Fin 8732 => kc m c b p ≠ 0#32).card

theorem npos_le (b : Fin 64) : npos m c b ≤ 8732 := by
  unfold npos
  exact (Finset.card_filter_le _ _).trans (by simp)

theorem sum_ind (b : Fin 64) : ∑ p, ind (kc m c b p) = ((npos m c b : ℝ) : EReal) := by
  unfold npos
  induction (Finset.univ : Finset (Fin 8732)) using Finset.induction_on with
  | empty => simp
  | insert a s ha ih =>
    rw [Finset.sum_insert ha, ih, Finset.filter_insert]
    by_cases h : kc m c b a = 0#32
    · simp [h, ind]
    · rw [if_pos h, Finset.card_insert_of_notMem (fun k => ha (Finset.mem_filter.1 k).1)]
      simp [h, ind, add_comm]

theorem total_congr {a b d e a' b' d' e' : EReal} (ha : a = a') (hb : b = b') (hd : d = d') (he : e = e') :
    KCombine.total a b d e = KCombine.total a' b' d' e' := by rw [ha, hb, hd, he]

/-- What the program computes: with non-negative background losses, the sum of the four parts, the hardest negatives chosen
    by a threshold that splits each row. -/
theorem result (h0 : ∀ b p, 0 ≤ neg m c b p) :
    ∃ t : Fin 64 → EReal, (∀ b, Topk.IsThr (neg m c b) (3 * npos m c b) (t b)) ∧
      (W7 m ρ c (Proc.devRef .tc main_v9) : S_.Idx → EReal) ix0
        = KCombine.total (∑ b, KCombine.hard (neg m c b) (3 * npos m c b) (t b)) (∑ b, ∑ p, if kc m c b p = 0#32 then 0 else kl m c b p)
            (∑ b, ((npos m c b : ℝ) : EReal)) (∑ b, ∑ p, offset (aB m c b) (aP m c) (aT m c b) p * ind (kc m c b p)) := by
  obtain ⟨t, ht, e⟩ := KArrays.arr2_3 (V5 m ρ) c (V5 m ρ c main_v7) (V5 m ρ c main_v3_1) (V5 m ρ c main_v6_1) rfl rfl rfl (npos m c) (npos_le m c)
    (fun b => by rw [pos_eq, sum_ind]) (fun b p => by rw [neg_eq]; exact h0 b p)
  have er : ∀ b, KCombine.row (V5 m ρ c main_v7) b = neg m c b := fun b => funext fun p => neg_eq m ρ c b p
  refine ⟨t, fun b => er b ▸ ht b, ?_⟩
  after_reads_at
  have e' : W6 m ρ c (Proc.devRef .tc main_v8) = (dat2 (V5 m ρ) c).arrAt 3 cfg2.N := W6_arr m ρ c 3
  rw [e']
  refine e.trans ?_
  exact total_congr (Finset.sum_congr (M := EReal) rfl fun b _ => by rw [er]) ((Finset.sum_congr (M := EReal) rfl fun s _ => conf_eq m ρ c s).trans
    (sum_rows fun b p => if kc m c b p = 0#32 then 0 else kl m c b p)) (Finset.sum_congr (M := EReal) rfl fun b _ => (pos_eq m ρ c b).trans (sum_ind m c b))
    (Finset.sum_congr (M := EReal) rfl fun b _ => loc_eq m ρ c b)

-- the launch's implicit arguments are found by unifying its conclusion, which takes unfolding plain definitions
set_option backward.isDefEq.respectTransparency.types false in
/-- Every run of the program ends, with the result array at what the segments leave and the arguments unchanged. -/
theorem run : θ_run defs (onTc (τ := τ) (main (F := Ideal))) ⟨m, fun _ => 0, ρ⟩ (fun r => ∀ c : Dev nD,
      r.2.mem ((c.tc : Thread nD τ).loc main_v9) = W7 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => fun c =>
      ⟨(h c _ (mem_uc main_v9 (by decide))),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KRun

end

end
-- ==== Proof.RefLine.lean ====
module

public import proofs.«01_k».proof.Defs
public import proofs.«01_k».proof.Proof.Gen.ReferenceIdeal
public import Idealize.ShloMosaic.Lib.Claim
public import Idealize.ShloMosaic.Lib.StableHlo.ReadAt

@[expose] public section

set_option maxRecDepth 16384

noncomputable section

namespace Cert.RefLine

open Idealize.ShloMosaic Idealize.ShloMosaic.StableHlo Idealize.SL.Sem Cert.ReferenceIdeal

local instance : Cert.ReferenceIdeal.Facts := Cert.ReferenceIdeal.Gen.facts

theorem isSeq_one {nD : Nat} {τ : Topo} {sig : RefSig} {Val : EltTy → Type} {Λ : Labels} {op : HloOp τ sig Val} :
    IsSeq (nD := nD) (Λ := Λ) (hlo rfl op fun _ => .ret (⟨⟩ : PUnit)) [op] := by
  unfold IsSeq; rfl

theorem isSeq_append {nD : Nat} {τ : Topo} {sig : RefSig} {Val : EltTy → Type} {Λ : Labels}
    {p q : Prog (TpuEff nD τ sig Val Λ .tc) PUnit} {l₁ l₂ : List (HloOp τ sig Val)}
    (h₁ : IsSeq p l₁) (h₂ : IsSeq q l₂) : IsSeq (p >>= fun _ => q) (l₁ ++ l₂) := by
  unfold IsSeq at *; rw [seq_append, h₁, h₂]

set_option maxHeartbeats 4000000 in
/-- Window 0 of the reference is a straight line of host operations. -/
def line0 : { ops : List (HloOp τ sig (Elt Ideal)) // IsSeq (main_part0 (F := Ideal) 0) ops } := by
  apply Subtype.mk
  unfold main_part0 fn_clip.body
  repeat (first | exact IsSeq.nil | exact isSeq_one | apply IsSeq.cons | apply isSeq_append)

set_option maxHeartbeats 4000000 in
/-- Window 1 of the reference is a straight line of host operations. -/
def line1 : { ops : List (HloOp τ sig (Elt Ideal)) // IsSeq (main_part1 (F := Ideal) 0) ops } := by
  apply Subtype.mk
  unfold main_part1 fn_argmax.body fn_argmax_0.body
  repeat (first | exact IsSeq.nil | exact isSeq_one | apply IsSeq.cons | apply isSeq_append)

set_option maxHeartbeats 4000000 in
/-- Window 2 of the reference is a straight line of host operations. -/
def line2 : { ops : List (HloOp τ sig (Elt Ideal)) // IsSeq (main_part2 (F := Ideal) 0) ops } := by
  apply Subtype.mk
  unfold main_part2 fn_where.body
  repeat (first | exact IsSeq.nil | exact isSeq_one | apply IsSeq.cons | apply isSeq_append)

set_option maxHeartbeats 4000000 in
/-- Window 3 of the reference is a straight line of host operations. -/
def line3 : { ops : List (HloOp τ sig (Elt Ideal)) // IsSeq (main_part3 (F := Ideal) 0) ops } := by
  apply Subtype.mk
  unfold main_part3 fn_log_softmax.body fn_take_along_axis.body fn_where_1.body fn_where_2.body fn_sort.body
  repeat (first | exact IsSeq.nil | exact isSeq_one | apply IsSeq.cons | apply isSeq_append)

/-- The reference's operations. -/
def ops : List (HloOp τ sig (Elt Ideal)) := line0.1 ++ (line1.1 ++ (line2.1 ++ line3.1))

theorem ops_isSeq (d : Dev nD) : IsSeq (main (F := Ideal) d) ops :=
  isSeq_append line0.2 (isSeq_append line1.2 (isSeq_append line2.2 line3.2))

/-- Stage 1: the overlaps of the boxes and the priors. -/
abbrev p1 : List (HloOp τ sig (Elt Ideal)) := (ops.drop 0).take 66
/-- Stage 2: the best object of a prior, its overlap, and the best prior of an object. -/
abbrev p2 : List (HloOp τ sig (Elt Ideal)) := (ops.drop 66).take 12
/-- Stage 3: the objects and overlaps after the forced matches. -/
abbrev p3 : List (HloOp τ sig (Elt Ideal)) := (ops.drop 78).take 48
/-- Stage 4: the classes and the boxes of the priors. -/
abbrev p4 : List (HloOp τ sig (Elt Ideal)) := (ops.drop 126).take 42
/-- Stage 5: the offset loss and the counts. -/
abbrev p5 : List (HloOp τ sig (Elt Ideal)) := (ops.drop 168).take 49
/-- Stage 6: the classification losses. -/
abbrev p6 : List (HloOp τ sig (Elt Ideal)) := (ops.drop 217).take 50
/-- Stage 7: the hardest negatives and the loss. -/
abbrev p7 : List (HloOp τ sig (Elt Ideal)) := (ops.drop 267).take 23

/-- The line is its stages one after the other. -/
theorem ops_eq : ops = p1 ++ (p2 ++ (p3 ++ (p4 ++ (p5 ++ (p6 ++ p7))))) := rfl

theorem after_two (l₁ l₂ : List (HloOp τ sig (Elt Ideal))) (V : Valuation τ sig (Elt Ideal)) : after (l₁ ++ l₂) V = after l₂ (after l₁ V) := by
  induction l₁ generalizing V with
  | nil => rfl
  | cons op l ih => exact ih _

theorem after_ops (V : Valuation τ sig (Elt Ideal)) : after ops V = after p7 (after p6 (after p5 (after p4 (after p3 (after p2 (after p1 V)))))) := by
  conv_lhs => rw [ops_eq]
  simp only [after_two]

end Cert.RefLine

end

end
-- ==== Proof.RefIou.lean ====
module

public import proofs.«01_k».proof.Proof.RefLine
public import proofs.«01_k».proof.Proof.Folds
public import Idealize.ShloMosaic.Lib.Pointwise

@[expose] public section

set_option maxRecDepth 16384

noncomputable section

/-! The reference's overlaps. -/

namespace Cert.RefIou

open Idealize.ShloMosaic Idealize.ShloMosaic.StableHlo Idealize.SL.Sem Cert.ReferenceIdeal Cert.RefLine Cert.Spec Cert.Folds

variable (U : Valuation τ sig (Elt Ideal))

/-- The boxes and the priors on plain indices. -/
def rB (b : Fin 64) (o : Fin 16) (k : Fin 4) : EReal := (U (Proc.devRef .tc main_arg2) : S64x16x4.Idx → EReal) (ix3 b o k)
def rP (p : Fin 8732) (k : Fin 4) : EReal := (U (Proc.devRef .tc main_arg4) : S8732x4.Idx → EReal) (ix2 p k)

theorem lo_at (p : Fin 8732) (k : Fin 2) : (upto p1 U 12 (Proc.devRef .tc main_v4) : S8732x2.Idx → EReal) (ix2 p k)
    = lower (rP U p ⟨k.val, by omega⟩) (rP U p ⟨2 + k.val, by omega⟩) := by
  after_reads_at
  rfl

theorem hi_at (p : Fin 8732) (k : Fin 2) : (upto p1 U 12 (Proc.devRef .tc main_v9) : S8732x2.Idx → EReal) (ix2 p k)
    = upper (rP U p ⟨k.val, by omega⟩) (rP U p ⟨2 + k.val, by omega⟩) := by
  after_reads_at
  rfl

/-- The overlap of a box and a prior. -/
theorem v60_at (b : Fin 64) (o : Fin 16) (p : Fin 8732) :
    (after p1 U (Proc.devRef .tc main_v60) : S64x16x8732.Idx → EReal) (ix3 b o p) = iou (rB U b o) (rP U p) := by
  after_reads_at
  have z : (id (constant (F := Ideal) S_ FTy.f32 0#32) ix0 : EReal) = 0 := by
    show Ideal.ofBits .f32 0#32 = 0
    simp [Ideal.ofBits, Ideal.ieee]
  rw [z, lo_at U p 0, lo_at U p 1, hi_at U p 0, hi_at U p 1]
  rfl

end Cert.RefIou

end

end
-- ==== Proof.RefArg.lean ====
module

public import proofs.«01_k».proof.Proof.RefLine
public import proofs.«01_k».proof.Proof.Folds
public import Idealize.ShloMosaic.Lib.Pointwise

@[expose] public section

set_option maxRecDepth 16384

noncomputable section

/-! The reference's choices: the object that fits a prior best, and the prior that fits an object best. -/

namespace Cert.RefArg

open Idealize.ShloMosaic Idealize.ShloMosaic.StableHlo Idealize.SL.Sem Cert.ReferenceIdeal Cert.RefLine Cert.Spec Cert.Folds

/-- `q` is no better than `r`: smaller, or equal and not earlier. -/
def Le (q r : EReal × BitVec 32) : Prop := q.1 < r.1 ∨ (q.1 = r.1 ∧ r.2.toInt ≤ q.2.toInt)

theorem Le.refl (q : EReal × BitVec 32) : Le q q := Or.inr ⟨rfl, le_refl _⟩

theorem Le.trans {q r s : EReal × BitVec 32} (h : Le q r) (h' : Le r s) : Le q s := by
  rcases h with h | ⟨h, k⟩ <;> rcases h' with h' | ⟨h', k'⟩
  · exact Or.inl (h.trans h')
  · exact Or.inl (h' ▸ h)
  · exact Or.inl (h ▸ h')
  · exact Or.inr ⟨h.trans h', k'.trans k⟩

/-- One step keeps one of its two pairs, the better one. -/
theorem step_spec (a b : EReal × BitVec 32) :
    (reducer_argmax_f32_i32 (F := Ideal) a b = a ∨ reducer_argmax_f32_i32 (F := Ideal) a b = b)
      ∧ Le a (reducer_argmax_f32_i32 (F := Ideal) a b) ∧ Le b (reducer_argmax_f32_i32 (F := Ideal) a b) := by
  obtain ⟨x, i⟩ := a
  obtain ⟨y, j⟩ := b
  have e : reducer_argmax_f32_i32 (F := Ideal) (x, i) (y, j)
      = (if y < x then x else y, if y < x ∨ (x = y ∧ i.toInt < j.toInt) then i else j) := by
    unfold reducer_argmax_f32_i32
    have h1 : FloatOps.cmpf (F := Ideal) (φ := .f32) .ogt x y = BitVec.ofBool (decide (y < x)) := rfl
    have h2 : FloatOps.cmpf (F := Ideal) (φ := .f32) .une x x = 0#1 := by
      show BitVec.ofBool (decide (x ≠ x)) = 0#1
      simp
    have h3 : FloatOps.cmpf (F := Ideal) (φ := .f32) .oeq x y = BitVec.ofBool (decide (x = y)) := rfl
    have h4 : IntOp.cmpi .slt i j = BitVec.ofBool (decide (i.toInt < j.toInt)) := by
      unfold IntOp.cmpi
      simp [BitVec.slt]
    simp only [h1, h2, h3, h4]
    by_cases c1 : y < x <;> by_cases c2 : x = y <;> by_cases c3 : i.toInt < j.toInt <;>
      simp [c1, c2, c3, IntOp.ori, IntOp.andi, Scalar.select]
  rw [e]
  by_cases c1 : y < x
  · rw [if_pos c1, if_pos (Or.inl c1)]
    exact ⟨Or.inl rfl, Le.refl _, Or.inl c1⟩
  · by_cases c2 : x = y
    · subst c2
      by_cases c3 : i.toInt < j.toInt
      · rw [if_neg c1, if_pos (Or.inr ⟨rfl, c3⟩)]
        exact ⟨Or.inl rfl, Le.refl _, Or.inr ⟨rfl, c3.le⟩⟩
      · rw [if_neg c1, if_neg (fun h => h.elim c1 fun h => c3 h.2)]
        exact ⟨Or.inr rfl, Or.inr ⟨rfl, not_lt.1 c3⟩, Le.refl _⟩
    · rw [if_neg c1, if_neg (fun h => h.elim c1 fun h => c2 h.1)]
      exact ⟨Or.inr rfl, Or.inl (lt_of_le_of_ne (not_lt.1 c1) c2), Le.refl _⟩

/-- The fold keeps one of the pairs, the best one. -/
theorem foldl_spec (l : List (EReal × BitVec 32)) (init : EReal × BitVec 32) :
    l.foldl (reducer_argmax_f32_i32 (F := Ideal)) init ∈ init :: l
      ∧ ∀ q ∈ init :: l, Le q (l.foldl (reducer_argmax_f32_i32 (F := Ideal)) init) := by
  induction l generalizing init with
  | nil => exact ⟨List.mem_singleton.2 rfl, fun q hq => by rw [List.mem_singleton.1 hq]; exact Le.refl _⟩
  | cons a l ih =>
    obtain ⟨h1, h2⟩ := ih (reducer_argmax_f32_i32 (F := Ideal) init a)
    obtain ⟨s1, s2, s3⟩ := step_spec init a
    have h0 := h2 _ List.mem_cons_self
    refine ⟨?_, fun q hq => ?_⟩
    · rcases List.mem_cons.1 h1 with h | h
      · rcases s1 with s | s
        · exact List.mem_cons.2 (Or.inl (h.trans s))
        · exact List.mem_cons.2 (Or.inr (List.mem_cons.2 (Or.inl (h.trans s))))
      · exact List.mem_cons.2 (Or.inr (List.mem_cons.2 (Or.inr h)))
    · rcases List.mem_cons.1 hq with h | h
      · subst h; exact s2.trans h0
      · rcases List.mem_cons.1 h with h | h
        · subst h; exact s3.trans h0
        · exact h2 q (List.mem_cons.2 (Or.inr h))

/-- Over the pairs of a row's values and places the fold ends at the first largest value's place. -/
theorem foldl_first {n : ℕ} (hn : n < 2 ^ 30) (f : Fin (n + 1) → EReal) (l : List (EReal × BitVec 32))
    (hl : ∀ q, q ∈ l ↔ ∃ k : Fin (n + 1), q = (f k, BitVec.ofNat 32 k.val)) :
    (l.foldl (reducer_argmax_f32_i32 (F := Ideal)) (⊥, 0#32)).2 = BitVec.ofNat 32 (firstMax f).val := by
  obtain ⟨h1, h2⟩ := foldl_spec l (⊥, 0#32)
  generalize hr : l.foldl (reducer_argmax_f32_i32 (F := Ideal)) (⊥, 0#32) = r at h1 h2 ⊢
  have hb : ∀ x : Fin (n + 1), (BitVec.ofNat 32 x.val).toInt = x.val := fun x => toInt_ofNat (by have := x.isLt; omega)
  have hs := firstMax_spec f
  have hm := h2 (f (firstMax f), BitVec.ofNat 32 (firstMax f).val) (List.mem_cons.2 (Or.inr ((hl _).2 ⟨_, rfl⟩)))
  rcases List.mem_cons.1 h1 with h | h
  · subst h
    have e : f (firstMax f) = ⊥ := by
      rcases hm with hm | hm
      · exact absurd hm not_lt_bot
      · exact hm.1
    have z : firstMax f = 0 := by
      by_contra hne
      have := hs.2 0 (Fin.pos_of_ne_zero hne)
      rw [e] at this
      exact not_lt_bot this
    rw [z]
    rfl
  · obtain ⟨k, rfl⟩ := (hl _).1 h
    have hk := hs.1 k
    rcases hm with hm | ⟨hm, hi⟩
    · exact absurd hm (not_lt.2 hk)
    · simp only [hb] at hi
      rcases lt_or_eq_of_le (Int.ofNat_le.1 hi) with hlt | heq
      · exact absurd (hs.2 k hlt) (by simp only at hm; rw [hm]; exact lt_irrefl _)
      · exact congrArg (BitVec.ofNat 32) heq

/-- The printed row-wise arg-max, its axis' places as the index operand, read at one element: the first largest value's place. -/
theorem argmax_of {s t u : Shape} {axes : List (Fin s.rank)} {n : ℕ} (hn : n < 2 ^ 30) (x : s.Idx → EReal) (y : s.Idx → BitVec 32)
    (ix : u.Idx → EReal) (iy : u.Idx → BitVec 32) (h : s.ReducesTo axes t) (hu : 0 < u.numel) (j : t.Idx)
    (hix : ix (Shape.Idx.first hu) = ⊥) (hiy : iy (Shape.Idx.first hu) = 0#32) (e : Fin (n + 1) → s.Idx)
    (hj : ∀ i, h.drop i = j ↔ ∃ k, e k = i) (hy : ∀ k, y (e k) = BitVec.ofNat 32 k.val) :
    (Host.argReduce (F := Ideal) (φ := .f32) reducer_argmax_f32_i32 x y ix iy h hu j).2
      = BitVec.ofNat 32 (firstMax fun k => x (e k)).val := by
  rw [Ideal.argReduce_eq_reduce2, Host.reduce2_eq_foldl_fiber, hix, hiy]
  refine foldl_first hn _ _ fun q => ?_
  unfold Host.argReduceFiber
  rw [List.mem_map]
  constructor
  · rintro ⟨m, hm, rfl⟩
    obtain ⟨k, hk⟩ := (hj _).1 (of_decide_eq_true (List.mem_filter.1 hm).2)
    exact ⟨k, by rw [← hk, hy]⟩
  · rintro ⟨k, rfl⟩
    refine ⟨s.rowMajor (e k), List.mem_filter.2 ⟨List.mem_finRange _, decide_eq_true ?_⟩, ?_⟩
    · rw [Equiv.symm_apply_apply]
      exact (hj _).2 ⟨k, rfl⟩
    · rw [Equiv.symm_apply_apply, hy]

variable (U : Valuation τ sig (Elt Ideal))

/-- The overlaps as this stage finds them. -/
def ov (b : Fin 64) (o : Fin 16) (p : Fin 8732) : EReal := (U (Proc.devRef .tc main_v60) : S64x16x8732.Idx → EReal) (ix3 b o p)

/-- The object that fits a prior best. -/
theorem v61_at (b : Fin 64) (p : Fin 8732) :
    (after p2 U (Proc.devRef .tc main_v61) : S64x8732.Idx → BitVec 32) (ix2 b p) = BitVec.ofNat 32 (firstMax fun o => ov U b o p).val := by
  after_reads_at
  exact argmax_of (by norm_num) _ _ _ _ _ _ _ negInf rfl (fun o : Fin 16 => ix3 b o p)
    (fun i => Shape.ReducesTo.fiber_r3_a1 _ _ i) fun _ => rfl

/-- The overlap of the object that fits a prior best. -/
theorem v62_at (b : Fin 64) (p : Fin 8732) :
    (after p2 U (Proc.devRef .tc main_v62) : S64x8732.Idx → EReal) (ix2 b p) = top fun o => ov U b o p := by
  after_reads_at
  rw [negInf, fold_top]
  rfl
/-- The prior that fits an object best. -/
theorem v63_at (b : Fin 64) (o : Fin 16) :
    (after p2 U (Proc.devRef .tc main_v63) : S64x16.Idx → BitVec 32) (ix2 b o) = BitVec.ofNat 32 (firstMax fun p => ov U b o p).val := by
  after_reads_at
  exact argmax_of (by norm_num) _ _ _ _ _ _ _ negInf rfl (fun p : Fin 8732 => ix3 b o p)
    (fun i => Shape.ReducesTo.fiber_r3_a2 _ _ i) fun _ => rfl

end Cert.RefArg

end

end
-- ==== Proof.RefScatter.lean ====
module

public import proofs.«01_k».proof.Proof.RefArg
public import Idealize.ShloMosaic.Lib.Routing.OpsPair
public import Idealize.ShloMosaic.Lib.Routing.OpsSet

@[expose] public section

set_option maxRecDepth 16384

noncomputable section

/-! The forced matches of the reference: two scatters that write, at each object's best prior, the object's number and a one. -/

namespace Cert.RefScatter

open Idealize.ShloMosaic Idealize.ShloMosaic.StableHlo Idealize.SL.Sem Idealize.ShloMosaic.Routing
open Cert.ReferenceIdeal Cert.RefLine Cert.Spec Cert.Folds

/-- A fold of overwrites in rising order ends at the last one that hits. -/
theorem foldl_last {α : Type} {n : ℕ} (hit : Fin n → Prop) [DecidablePred hit] (val : Fin n → α) (k : Fin n) (hk : hit k)
    (hl : ∀ m, hit m → m ≤ k) (l : List (Fin n)) (hs : l.Pairwise (· < ·)) (hm : k ∈ l) (a : α) :
    l.foldl (fun a m => if hit m then val m else a) a = val k := by
  induction l generalizing a with
  | nil => exact nomatch hm
  | cons x l ih =>
    rw [List.foldl_cons]
    obtain ⟨hx, hs'⟩ := List.pairwise_cons.1 hs
    rcases List.mem_cons.1 hm with rfl | h
    · rw [if_pos hk]
      have : ∀ (l : List (Fin n)) (a : α), (∀ m ∈ l, ¬ hit m) → l.foldl (fun a m => if hit m then val m else a) a = a := by
        intro l
        induction l with
        | nil => intro a _; rfl
        | cons y l ih =>
          intro a hy
          rw [List.foldl_cons, if_neg (hy y List.mem_cons_self)]
          exact ih a fun m hm => hy m (List.mem_cons.2 (Or.inr hm))
      exact this l _ fun m hm hh => absurd (hl m hh) (not_le.2 (hx m hm))
    · exact ih hs' h _

/-- A scatter of overwrites read where updates land: the last of them. -/
theorem scatter_last {α : Type} {s si u : Shape} {w : Nat} (d : ScatterDims s si u) (x0 : s.Idx → α) (idx : IVec si w) (upd : u.Idx → α)
    (i : s.Idx) (k : u.Idx) (hk : d.resultIdx? k idx = some i)
    (hl : ∀ k', d.resultIdx? k' idx = some i → u.rowMajor k' ≤ u.rowMajor k) :
    Host.scatter d (fun _ b => b) x0 idx upd i = upd k := by
  rw [scatter_at]
  refine (foldl_last (fun n => d.resultIdx? (u.rowMajor.symm n) idx = some i) (fun n => upd (u.rowMajor.symm n)) (u.rowMajor k) ?_ ?_ _ ?_
    (List.mem_finRange _) _).trans ?_
  · rw [Equiv.symm_apply_apply]; exact hk
  · intro m hm
    have := hl _ hm
    rwa [Equiv.apply_symm_apply] at this
  · exact List.pairwise_lt_finRange _
  · rw [Equiv.symm_apply_apply]

variable (B : Fin 64 → Fin 16 → Fin 4 → EReal) (Q : Fin 8732 → Fin 4 → EReal)

/-- An object's update lands at its best prior, in its image's row. -/
theorem lands (idx : IVec S64x16x2 32) (h0 : ∀ (b : Fin 64) (o : Fin 16), idx (ix3 b o 0) = BitVec.ofNat 32 b.val)
    (h1 : ∀ (b : Fin 64) (o : Fin 16), idx (ix3 b o 1) = BitVec.ofNat 32 (prior (B b) Q o).val) (b' : Fin 64) (o : Fin 16) (b : Fin 64) (p : Fin 8732) :
    scatter_S64x8732_S64x16x2_S64x16_n_01_01_2.resultIdx? (ix2 b' o) idx = some (ix2 b p) ↔ b' = b ∧ prior (B b') Q o = p := by
  have := scatter_lands2 scatter_S64x8732_S64x16x2_S64x16_n_01_01_2 rfl rfl rfl idx b' o b p
  refine this.trans ?_
  have e0 : idx (ValueIdx.ix3 b' o 0) = _ := h0 b' o
  have e1 : idx (ValueIdx.ix3 b' o 1) = _ := h1 b' o
  rw [e0, e1, toInt_ofNat (by have := b'.isLt; omega), toInt_ofNat (by have := (prior (B b') Q o).isLt; omega)]
  simp only [Int.ofNat_inj, Fin.ext_iff]

/-- An entry's row-major place. -/
theorem row_pos (b : Fin 64) (o : Fin 16) : (S64x16.rowMajor (ix2 b o)).val = b.val * 16 + o.val := Shape.rowMajor_val_two _

open Classical in
/-- The scatter, read at one prior: the last forced object's update, the operand where no object is forced. -/
theorem scatter_forced {α : Type} (x0 : S64x8732.Idx → α) (idx : IVec S64x16x2 32) (upd : S64x16.Idx → α)
    (h0 : ∀ (b : Fin 64) (o : Fin 16), idx (ix3 b o 0) = BitVec.ofNat 32 b.val)
    (h1 : ∀ (b : Fin 64) (o : Fin 16), idx (ix3 b o 1) = BitVec.ofNat 32 (prior (B b) Q o).val) (b : Fin 64) (p : Fin 8732) :
    Host.scatter scatter_S64x8732_S64x16x2_S64x16_n_01_01_2 (fun _ b => b) x0 idx upd (ix2 b p)
      = if h : Forced (B b) Q p then upd (ix2 b (winner (B b) Q p h)) else x0 (ix2 b p) := by
  have hix : ∀ k : S64x16.Idx, k = ix2 (k 0) (k 1) := fun k => by
    funext a
    match a with
    | ⟨0, _⟩ => rfl
    | ⟨1, _⟩ => rfl
  split
  · next h =>
    refine scatter_last _ _ _ _ _ _ ((lands B Q idx h0 h1 _ _ _ _).2 ⟨rfl, winner_spec (B b) Q p h⟩) fun k hk => ?_
    rw [hix k] at hk ⊢
    obtain ⟨e, h'⟩ := (lands B Q idx h0 h1 _ _ _ _).1 hk
    have := le_winner (B b) Q p h (k 1) (by rw [← e]; exact h')
    refine Fin.le_def.2 ((row_pos _ _).le.trans (le_trans ?_ (row_pos _ _).ge))
    show (k 0).val * 16 + (k 1).val ≤ b.val * 16 + (winner (B b) Q p h).val
    have e' := congrArg Fin.val e
    have := Fin.le_def.1 this
    omega
  · next h =>
    refine scatter_set_miss _ _ _ _ _ fun k hk => h ?_
    rw [hix k] at hk
    obtain ⟨e, h'⟩ := (lands B Q idx h0 h1 _ _ _ _).1 hk
    exact ⟨k 1, by rw [← e]; exact h'⟩

/-- A word below the signed range stays as it is under the wrap of negative indices. -/
theorem wrap {n : ℕ} (h : n < 2 ^ 30) (a : BitVec 32) : Scalar.select (IntOp.cmpi .slt (BitVec.ofNat 32 n) 0#32) a (BitVec.ofNat 32 n) = BitVec.ofNat 32 n :=
  wrap_of_lt _ _ (by rw [BitVec.toNat_ofNat]; omega)

variable (U : Valuation τ sig (Elt Ideal))

/-- What this stage finds: each object's best prior, each prior's best object, and its overlap. -/
structure Found : Prop where
  best : ∀ (b : Fin 64) (o : Fin 16), (U (Proc.devRef .tc main_v63) : S64x16.Idx → BitVec 32) (ix2 b o) = BitVec.ofNat 32 (prior (B b) Q o).val
  fit : ∀ (b : Fin 64) (p : Fin 8732), (U (Proc.devRef .tc main_v61) : S64x8732.Idx → BitVec 32) (ix2 b p) = BitVec.ofNat 32 (firstMax fun o => iou (B b o) (Q p)).val
  most : ∀ (b : Fin 64) (p : Fin 8732), (U (Proc.devRef .tc main_v62) : S64x8732.Idx → EReal) (ix2 b p) = top fun o => iou (B b o) (Q p)

theorem v80_at (b : Fin 64) (o : Fin 16) :
    (upto p3 U 22 (Proc.devRef .tc main_v80) : S64x16x1.Idx → BitVec 32) (ix3 b o 0) = BitVec.ofNat 32 b.val := by
  after_reads_at
  exact wrap (by have := b.isLt; omega) _

theorem v81_at (h : Found B Q U) (b : Fin 64) (o : Fin 16) :
    (upto p3 U 22 (Proc.devRef .tc main_v81) : S64x16x1.Idx → BitVec 32) (ix3 b o 0) = BitVec.ofNat 32 (prior (B b) Q o).val := by
  after_reads_at
  rw [h.best]
  exact wrap (by have := (prior (B b) Q o).isLt; omega) _

theorem v95_at (b : Fin 64) (o : Fin 16) :
    (upto p3 U 41 (Proc.devRef .tc main_v95) : S64x16x1.Idx → BitVec 32) (ix3 b o 0) = BitVec.ofNat 32 b.val := by
  after_reads_at
  exact wrap (by have := b.isLt; omega) _

theorem v96_at (h : Found B Q U) (b : Fin 64) (o : Fin 16) :
    (upto p3 U 41 (Proc.devRef .tc main_v96) : S64x16x1.Idx → BitVec 32) (ix3 b o 0) = BitVec.ofNat 32 (prior (B b) Q o).val := by
  after_reads_at
  rw [h.best]
  exact wrap (by have := (prior (B b) Q o).isLt; omega) _

/-- The object of each prior. -/
theorem v83_at (h : Found B Q U) (b : Fin 64) (p : Fin 8732) :
    (after p3 U (Proc.devRef .tc main_v83) : S64x8732.Idx → BitVec 32) (ix2 b p) = BitVec.ofNat 32 (obj (B b) Q p).val := by
  after_reads_at
  rw [scatter_forced B Q]
  · unfold obj
    split
    · next hf =>
      pointwise
    · next hf => exact h.fit b p
  · intro b o
    pointwise
    exact v80_at U b o
  · intro b o
    pointwise
    exact v81_at B Q U h b o

/-- Whether a prior's overlap with its object is below one half. -/
theorem v101_at (h : Found B Q U) (b : Fin 64) (p : Fin 8732) :
    (after p3 U (Proc.devRef .tc main_v101) : S64x8732.Idx → BitVec 1) (ix2 b p) = BitVec.ofBool (decide (overlap (B b) Q p < half)) := by
  after_reads_at
  rw [scatter_forced B Q]
  · unfold overlap
    split
    · next hf =>
      pointwise
    · next hf => rw [h.most b p]
  · intro b o
    pointwise
    exact v95_at U b o
  · intro b o
    pointwise
    exact v96_at B Q U h b o

/-- The row numbers. -/
theorem v65_at (b : Fin 64) : (after p3 U (Proc.devRef .tc main_v65) : S64x1.Idx → BitVec 32) (ix2 b 0) = BitVec.ofNat 32 b.val := by
  after_reads_at

end Cert.RefScatter

end

end
-- ==== Proof.RefGather.lean ====
module

public import proofs.«01_k».proof.Proof.RefScatter

@[expose] public section

set_option maxRecDepth 16384

noncomputable section

/-! The reference's look-ups: the label and the box of each prior's object. -/

namespace Cert.RefGather

open Idealize.ShloMosaic Idealize.ShloMosaic.StableHlo Idealize.SL.Sem
open Cert.ReferenceIdeal Cert.RefLine Cert.Spec Cert.Folds

/-- A look-up by an image and an object. -/
theorem gather_pair {α : Type} (x : S64x16.Idx → α) (idx : IVec S64x8732x2 32) (b : Fin 64) (o : Fin 16) (p : Fin 8732)
    (h0 : idx (ix3 b p 0) = BitVec.ofNat 32 b.val) (h1 : idx (ix3 b p 1) = BitVec.ofNat 32 o.val) :
    Host.gather gather_S64x16_S64x8732x2_S64x8732_n_01_n_n_01_2_11 x idx (ix2 b p) = x (ix2 b o) := by
  unfold Host.gather
  have hm : ∀ a : Fin 2, a ∈ gather_S64x16_S64x8732x2_S64x8732_n_01_n_n_01_2_11.startIndexMap := by decide
  have hs : ∀ a : Fin 2, gather_S64x16_S64x8732x2_S64x8732_n_01_n_n_01_2_11.siIdx (ix2 b p)
      ⟨gather_S64x16_S64x8732x2_S64x8732_n_01_n_n_01_2_11.startIndexMap.idxOf a, List.idxOf_lt_length_iff.2 (hm a)⟩ = ix3 b p a := by
    intro a
    funext c
    fin_cases a <;> fin_cases c <;> rfl
  refine congrArg x (funext fun a => Fin.ext ?_)
  show GatherDims.start _ _ _ _ + GatherDims.batchCoord _ _ _ + GatherDims.offCoord _ _ _ = _
  unfold GatherDims.start
  rw [dif_pos (hm a), hs a]
  have h2 : GatherDims.batchCoord gather_S64x16_S64x8732x2_S64x8732_n_01_n_n_01_2_11 (ix2 b p) a = 0 := by fin_cases a <;> rfl
  have h3 : GatherDims.offCoord gather_S64x16_S64x8732x2_S64x8732_n_01_n_n_01_2_11 (ix2 b p) a = 0 := by fin_cases a <;> rfl
  rw [h2, h3]
  match a with
  | ⟨0, _⟩ =>
    have h := toInt_ofNat (a := b.val) (by have := b.isLt; omega)
    show min (idx (ix3 b p 0)).toInt.toNat (64 - 1) + 0 + 0 = b.val
    rw [h0, h, Int.toNat_natCast]
    have := b.isLt
    omega
  | ⟨1, _⟩ =>
    have h := toInt_ofNat (a := o.val) (by have := o.isLt; omega)
    show min (idx (ix3 b p 1)).toInt.toNat (16 - 1) + 0 + 0 = o.val
    rw [h1, h, Int.toNat_natCast]
    have := o.isLt
    omega

/-- A look-up of a box by an image and an object. -/
theorem gather_box {α : Type} (x : S64x16x4.Idx → α) (idx : IVec S64x8732x2 32) (b : Fin 64) (o : Fin 16) (p : Fin 8732) (k : Fin 4)
    (h0 : idx (ix3 b p 0) = BitVec.ofNat 32 b.val) (h1 : idx (ix3 b p 1) = BitVec.ofNat 32 o.val) :
    Host.gather gather_S64x16x4_S64x8732x2_S64x8732x4_2_01_n_n_01_2_114 x idx (ix3 b p k) = x (ix3 b o k) := by
  unfold Host.gather
  have hm : ∀ a : Fin 2, (a.castSucc : Fin 3) ∈ gather_S64x16x4_S64x8732x2_S64x8732x4_2_01_n_n_01_2_114.startIndexMap := by decide
  have hs : ∀ a : Fin 2, gather_S64x16x4_S64x8732x2_S64x8732x4_2_01_n_n_01_2_114.siIdx (ix3 b p k)
      ⟨gather_S64x16x4_S64x8732x2_S64x8732x4_2_01_n_n_01_2_114.startIndexMap.idxOf a.castSucc, List.idxOf_lt_length_iff.2 (hm a)⟩ = ix3 b p a := by
    intro a
    funext c
    fin_cases a <;> fin_cases c <;> rfl
  refine congrArg x (funext fun a => Fin.ext ?_)
  show GatherDims.start _ _ _ _ + GatherDims.batchCoord _ _ _ + GatherDims.offCoord _ _ _ = _
  have h2 : GatherDims.batchCoord gather_S64x16x4_S64x8732x2_S64x8732x4_2_01_n_n_01_2_114 (ix3 b p k) a = 0 := by fin_cases a <;> rfl
  rw [h2]
  match a with
  | ⟨0, _⟩ =>
    unfold GatherDims.start
    have h := toInt_ofNat (a := b.val) (by have := b.isLt; omega)
    refine (congrArg (· + 0 + 0) (dif_pos (hm 0))).trans ?_
    refine (congrArg (fun i => min (idx i).toInt.toNat (64 - 1) + 0 + 0) (hs 0)).trans ?_
    show min (idx (ix3 b p 0)).toInt.toNat (64 - 1) + 0 + 0 = b.val
    rw [h0, h, Int.toNat_natCast]
    have := b.isLt
    omega
  | ⟨1, _⟩ =>
    unfold GatherDims.start
    have h := toInt_ofNat (a := o.val) (by have := o.isLt; omega)
    refine (congrArg (· + 0 + 0) (dif_pos (hm 1))).trans ?_
    refine (congrArg (fun i => min (idx i).toInt.toNat (16 - 1) + 0 + 0) (hs 1)).trans ?_
    show min (idx (ix3 b p 1)).toInt.toNat (16 - 1) + 0 + 0 = o.val
    rw [h1, h, Int.toNat_natCast]
    have := o.isLt
    omega
  | ⟨2, _⟩ =>
    unfold GatherDims.start
    refine (congrArg (· + 0 + GatherDims.offCoord gather_S64x16x4_S64x8732x2_S64x8732x4_2_01_n_n_01_2_114 (ix3 b p k) (2 : Fin 3))
      (dif_neg (show (2 : Fin 3) ∉ gather_S64x16x4_S64x8732x2_S64x8732x4_2_01_n_n_01_2_114.startIndexMap by decide))).trans ?_
    show 0 + 0 + k.val = k.val
    omega

variable (B : Fin 64 → Fin 16 → Fin 4 → EReal) (Q : Fin 8732 → Fin 4 → EReal)
variable (U : Valuation τ sig (Elt Ideal))

/-- What this stage finds: the row numbers, each prior's object, and whether its overlap is below one half. -/
structure Found : Prop where
  row : ∀ b : Fin 64, (U (Proc.devRef .tc main_v65) : S64x1.Idx → BitVec 32) (ix2 b 0) = BitVec.ofNat 32 b.val
  object : ∀ (b : Fin 64) (p : Fin 8732), (U (Proc.devRef .tc main_v83) : S64x8732.Idx → BitVec 32) (ix2 b p) = BitVec.ofNat 32 (obj (B b) Q p).val
  low : ∀ (b : Fin 64) (p : Fin 8732), (U (Proc.devRef .tc main_v101) : S64x8732.Idx → BitVec 1) (ix2 b p) = BitVec.ofBool (decide (overlap (B b) Q p < half))

theorem v113_at (h : Found B Q U) (b : Fin 64) (p : Fin 8732) :
    (upto p4 U 17 (Proc.devRef .tc main_v113) : S64x8732x1.Idx → BitVec 32) (ix3 b p 0) = BitVec.ofNat 32 b.val := by
  after_reads_at
  rw [h.row]
  exact RefScatter.wrap (by have := b.isLt; omega) _

theorem v114_at (h : Found B Q U) (b : Fin 64) (p : Fin 8732) :
    (upto p4 U 17 (Proc.devRef .tc main_v114) : S64x8732x1.Idx → BitVec 32) (ix3 b p 0) = BitVec.ofNat 32 (obj (B b) Q p).val := by
  after_reads_at
  rw [h.object]
  exact RefScatter.wrap (by have := (obj (B b) Q p).isLt; omega) _

theorem v129_at (h : Found B Q U) (b : Fin 64) (p : Fin 8732) :
    (upto p4 U 40 (Proc.devRef .tc main_v129) : S64x8732x1.Idx → BitVec 32) (ix3 b p 0) = BitVec.ofNat 32 b.val := by
  after_reads_at
  rw [h.row]
  exact RefScatter.wrap (by have := b.isLt; omega) _

theorem v130_at (h : Found B Q U) (b : Fin 64) (p : Fin 8732) :
    (upto p4 U 40 (Proc.devRef .tc main_v130) : S64x8732x1.Idx → BitVec 32) (ix3 b p 0) = BitVec.ofNat 32 (obj (B b) Q p).val := by
  after_reads_at
  rw [h.object]
  exact RefScatter.wrap (by have := (obj (B b) Q p).isLt; omega) _

/-- The class of each prior. -/
theorem v117_at (h : Found B Q U) (b : Fin 64) (p : Fin 8732) :
    (after p4 U (Proc.devRef .tc main_v117) : S64x8732.Idx → BitVec 32) (ix2 b p)
      = cls (B b) Q (fun o => (U (Proc.devRef .tc main_arg3) : S64x16.Idx → BitVec 32) (ix2 b o)) p := by
  after_reads_at
  rw [h.low, gather_pair _ _ b (obj (B b) Q p) p]
  · unfold cls
    by_cases hl : overlap (B b) Q p < half
    · rw [if_pos hl, decide_eq_true hl]
      rfl
    · rw [if_neg hl, decide_eq_false hl]
      rfl
  · pointwise
    exact v113_at B Q U h b p
  · pointwise
    exact v114_at B Q U h b p

/-- The box of each prior's object. -/
theorem v132_at (h : Found B Q U) (b : Fin 64) (p : Fin 8732) (k : Fin 4) :
    (after p4 U (Proc.devRef .tc main_v132) : S64x8732x4.Idx → EReal) (ix3 b p k)
      = (U (Proc.devRef .tc main_arg2) : S64x16x4.Idx → EReal) (ix3 b (obj (B b) Q p) k) := by
  after_reads_at
  rw [gather_box _ _ b (obj (B b) Q p) p k]
  · pointwise
    exact v129_at B Q U h b p
  · pointwise
    exact v130_at B Q U h b p

end Cert.RefGather

end

end
-- ==== Proof.Soft.lean ====
module

public import proofs.«01_k».proof.Proof.Folds

@[expose] public section

set_option maxRecDepth 16384

noncomputable section

/-! The classification loss of finite scores: it is not negative, and a shift of the scores by their largest does not change it. -/

namespace Cert.Soft

open Idealize.ShloMosaic Cert.Spec Cert.Folds

theorem exp_real (r : ℝ) : Ideal.exp (r : EReal) = ((Real.exp r : ℝ) : EReal) := rfl

theorem log_real {r : ℝ} (h : 0 < r) : Ideal.log (r : EReal) = ((Real.log r : ℝ) : EReal) := if_neg (not_le.2 h)

theorem sum_real {ι : Type} (s : Finset ι) (r : ι → ℝ) : ∑ i ∈ s, ((r i : ℝ) : EReal) = ((∑ i ∈ s, r i : ℝ) : EReal) := by
  classical
  induction s using Finset.induction_on with
  | empty => simp
  | insert a s ha ih => rw [Finset.sum_insert ha, Finset.sum_insert ha, ih, EReal.coe_add]

/-- The sum of the exponentials of 81 reals is positive. -/
theorem sum_pos (r : Fin 81 → ℝ) : 0 < ∑ c, Real.exp (r c) := Finset.sum_pos (fun c _ => Real.exp_pos _) ⟨0, Finset.mem_univ _⟩

/-- The loss of real scores. -/
theorem ce_real (r : Fin 81 → ℝ) (c : Fin 81) :
    ce (fun k => (r k : EReal)) (BitVec.ofNat 32 c.val) = ((Real.log (∑ k, Real.exp (r k)) - r c : ℝ) : EReal) := by
  have h : ∀ k : Fin 81, (if BitVec.ofNat 32 k.val = BitVec.ofNat 32 c.val then (r k : EReal) else 0) = if c = k then (r k : EReal) else 0 := by
    intro k
    have hk := k.isLt
    have hc := c.isLt
    by_cases e : c = k
    · rw [if_pos e, if_pos (by rw [e])]
    · rw [if_neg e, if_neg fun e' => e (Fin.ext ((ofNat_inj (by omega) (by omega)).1 e').symm)]
  have h2 : (∑ k : Fin 81, if BitVec.ofNat 32 k.val = BitVec.ofNat 32 c.val then (r k : EReal) else 0) = (r c : EReal) := by
    rw [Finset.sum_congr rfl fun k _ => h k]
    exact sum_pick c (fun k => (r k : EReal)) _
  unfold ce
  rw [h2]
  simp only [exp_real]
  rw [sum_real, log_real (sum_pos r), ← EReal.coe_sub]

/-- The loss of finite scores is not negative. -/
theorem ce_nonneg (s : Fin 81 → EReal) (hs : ∀ c, ∃ r : ℝ, s c = r) (c : Fin 81) : 0 ≤ ce s (BitVec.ofNat 32 c.val) := by
  choose r hr using hs
  rw [funext hr, ce_real]
  refine EReal.coe_nonneg.2 (sub_nonneg.2 ?_)
  rw [Real.le_log_iff_exp_le (sum_pos r)]
  exact Finset.single_le_sum (f := fun k => Real.exp (r k)) (fun k _ => (Real.exp_pos _).le) (Finset.mem_univ c)

/-- The loss read off the logarithm of the shifted softmax. -/
theorem shift (s : Fin 81 → EReal) (hs : ∀ c, ∃ r : ℝ, s c = r) (c : Fin 81) :
    -((s c - max ⊥ (top s)) - Ideal.log (∑ k, Ideal.exp (s k - max ⊥ (top s)))) = ce s (BitVec.ofNat 32 c.val) := by
  choose r hr using hs
  obtain rfl := funext hr
  rw [ce_real, max_eq_right bot_le]
  obtain ⟨M, hM⟩ : ∃ M : ℝ, top (fun k => (r k : EReal)) = M := ⟨_, rfl⟩
  rw [hM]
  simp only [← EReal.coe_sub, exp_real]
  rw [sum_real, log_real (sum_pos fun k => r k - M), ← EReal.coe_sub, ← EReal.coe_neg]
  refine congrArg _ ?_
  have : (∑ k, Real.exp (r k - M)) = (∑ k, Real.exp (r k)) * Real.exp (-M) := by
    rw [Finset.sum_mul]
    exact Finset.sum_congr rfl fun k _ => by rw [sub_eq_add_neg, Real.exp_add]
  rw [this, Real.log_mul (sum_pos r).ne' (Real.exp_pos _).ne', Real.log_exp]
  ring

end Cert.Soft

end

end
-- ==== Proof.RefLoc.lean ====
module

public import proofs.«01_k».proof.Proof.RefLine
public import proofs.«01_k».proof.Proof.Soft
public import Idealize.ShloMosaic.Lib.Pointwise

@[expose] public section

set_option maxRecDepth 16384

noncomputable section

/-! The reference's box loss: the encoded offsets, the counts of matched priors and the mean offset error. -/

namespace Cert.RefLoc

open Idealize.ShloMosaic Idealize.ShloMosaic.StableHlo Idealize.SL.Sem
open Cert.ReferenceIdeal Cert.RefLine Cert.Spec Cert.Folds

theorem ne_bit {w : ℕ} (a b : BitVec w) : IntOp.cmpi .ne a b = BitVec.ofBool (decide (a ≠ b)) := by
  unfold IntOp.cmpi
  by_cases h : a = b
  · simp [h]
  · have : (a != b) = true := by simpa using h
    simp [h, this]

/-- A sum of words is the word of the sum. -/
theorem fold_words {n : ℕ} (f : Fin n → ℕ) (s : Finset (Fin n)) :
    Finset.fold IntOp.addi 0#32 (fun b => BitVec.ofNat 32 (f b)) s = BitVec.ofNat 32 (∑ b ∈ s, f b) := by
  induction s using Finset.induction_on with
  | empty => rfl
  | insert a s ha ih =>
    rw [Finset.fold_insert ha, ih, Finset.sum_insert ha, BitVec.ofNat_add]
    rfl

/-- The unsigned value of a bit. -/
theorem bit_value (l : BitVec 32) : (FloatOps.uitofp (F := Ideal) .f32 (IntOp.cmpi .ne l 0#32) : EReal) = ind l := by
  rw [ne_bit]
  unfold ind
  by_cases h : l = 0#32
  · rw [if_pos h, decide_eq_false (by simpa using h)]
    show (((0 : ℕ) : ℝ) : EReal) = 0
    simp
  · rw [if_neg h, decide_eq_true h]
    show (((1 : ℕ) : ℝ) : EReal) = 1
    simp

variable (U : Valuation τ sig (Elt Ideal))

/-- The class of a prior, as this stage finds it. -/
def kind (b : Fin 64) (p : Fin 8732) : BitVec 32 := (U (Proc.devRef .tc main_v117) : S64x8732.Idx → BitVec 32) (ix2 b p)

/-- Whether a prior is matched. -/
theorem v160_at (b : Fin 64) (p : Fin 8732) :
    (after p5 U (Proc.devRef .tc main_v160) : S64x8732.Idx → BitVec 1) (ix2 b p) = BitVec.ofBool (decide (kind U b p ≠ 0#32)) := by
  after_reads_at
  exact ne_bit _ _

/-- The number of matched priors of an image. -/
def count (b : Fin 64) : ℕ := (Finset.univ.filter fun p => kind U b p ≠ 0#32).card

theorem count_le (b : Fin 64) : count U b ≤ 8732 := (Finset.card_filter_le _ _).trans (by simp)

/-- An image's count, as a word. -/
theorem v162_at (b : Fin 64) : (after p5 U (Proc.devRef .tc main_v162) : S64.Idx → BitVec 32) (ix1 b) = BitVec.ofNat 32 (count U b) := by
  after_reads_at
  simp only [ne_bit]
  exact fold_count (fun p => kind U b p ≠ 0#32) _

theorem total_word : Finset.fold IntOp.addi 0#32 (fun b => BitVec.ofNat 32 (count U b)) Finset.univ = BitVec.ofNat 32 (∑ b, count U b) :=
  fold_words _ _

/-- The total count as the two nested sums of words give it. -/
theorem total_real :
    (FloatOps.sitofp (F := Ideal) .f32 (Finset.fold IntOp.addi 0#32 (fun b : Fin 64 => Finset.fold IntOp.addi 0#32
      (fun p : Fin 8732 => BitVec.setWidth 32 (IntOp.cmpi CmpIPredicate.ne (kind U b p) 0#32)) Finset.univ) Finset.univ) : EReal)
      = ∑ b, ((count U b : ℝ) : EReal) := by
  have h : ∀ b : Fin 64, Finset.fold IntOp.addi 0#32 (fun p : Fin 8732 => BitVec.setWidth 32 (IntOp.cmpi CmpIPredicate.ne (kind U b p) 0#32)) Finset.univ
      = BitVec.ofNat 32 (count U b) := by
    intro b
    simp only [ne_bit]
    exact fold_count (fun p => kind U b p ≠ 0#32) _
  simp only [h]
  rw [total_word]
  show (((BitVec.ofNat 32 (∑ b, count U b)).toInt : ℝ) : EReal) = _
  have hb : ∑ b, count U b ≤ 64 * 8732 := by
    refine (Finset.sum_le_sum fun b _ => count_le U b).trans ?_
    simp
  rw [toInt_ofNat (by omega), Soft.sum_real]
  push_cast
  rfl

/-- The total count, converted. -/
theorem v164_at : (after p5 U (Proc.devRef .tc main_v164) : S_.Idx → EReal) ix0 = (∑ b, ((count U b : ℝ) : EReal) : EReal) := by
  after_reads_at
  exact total_real U

/-- The encoded box of a prior's object, as this stage finds the box. -/
def code (b : Fin 64) (p : Fin 8732) (k : Fin 4) : EReal :=
  let x : Fin 4 → EReal := fun k => (U (Proc.devRef .tc main_v132) : S64x8732x4.Idx → EReal) (ix3 b p k)
  let q : Fin 4 → EReal := fun k => (U (Proc.devRef .tc main_arg4) : S8732x4.Idx → EReal) (ix2 p k)
  ![encC (x 0) (x 2) (q 0) (q 2), encC (x 1) (x 3) (q 1) (q 3), encW (x 0) (x 2) (q 2), encW (x 1) (x 3) (q 3)] k

/-- A predicted offset, as this stage finds it. -/
def guess (b : Fin 64) (p : Fin 8732) (k : Fin 4) : EReal := (U (Proc.devRef .tc main_arg0) : S64x8732x4.Idx → EReal) (ix3 b p k)

theorem code_0 (b : Fin 64) (p : Fin 8732) : code U b p 0 = encC ((U (Proc.devRef .tc main_v132) : S64x8732x4.Idx → EReal) (ix3 b p 0)) ((U (Proc.devRef .tc main_v132) : S64x8732x4.Idx → EReal) (ix3 b p 2)) ((U (Proc.devRef .tc main_arg4) : S8732x4.Idx → EReal) (ix2 p 0)) ((U (Proc.devRef .tc main_arg4) : S8732x4.Idx → EReal) (ix2 p 2)) := rfl
theorem code_1 (b : Fin 64) (p : Fin 8732) : code U b p 1 = encC ((U (Proc.devRef .tc main_v132) : S64x8732x4.Idx → EReal) (ix3 b p 1)) ((U (Proc.devRef .tc main_v132) : S64x8732x4.Idx → EReal) (ix3 b p 3)) ((U (Proc.devRef .tc main_arg4) : S8732x4.Idx → EReal) (ix2 p 1)) ((U (Proc.devRef .tc main_arg4) : S8732x4.Idx → EReal) (ix2 p 3)) := rfl
theorem code_2 (b : Fin 64) (p : Fin 8732) : code U b p 2 = encW ((U (Proc.devRef .tc main_v132) : S64x8732x4.Idx → EReal) (ix3 b p 0)) ((U (Proc.devRef .tc main_v132) : S64x8732x4.Idx → EReal) (ix3 b p 2)) ((U (Proc.devRef .tc main_arg4) : S8732x4.Idx → EReal) (ix2 p 2)) := rfl
theorem code_3 (b : Fin 64) (p : Fin 8732) : code U b p 3 = encW ((U (Proc.devRef .tc main_v132) : S64x8732x4.Idx → EReal) (ix3 b p 1)) ((U (Proc.devRef .tc main_v132) : S64x8732x4.Idx → EReal) (ix3 b p 3)) ((U (Proc.devRef .tc main_arg4) : S8732x4.Idx → EReal) (ix2 p 3)) := rfl

theorem v150_at0 (b : Fin 64) (p : Fin 8732) :
    (upto p5 U 28 (Proc.devRef .tc main_v150) : S64x8732x2.Idx → EReal) (ix3 b p 0) = code U b p 0 := by
  after_reads_at
  rw [code_0]
  exact congrArg (fun s => Ideal.div (Ideal.div s two - _) _ * ten) (add_comm (G := EReal) _ _)

theorem v150_at1 (b : Fin 64) (p : Fin 8732) :
    (upto p5 U 28 (Proc.devRef .tc main_v150) : S64x8732x2.Idx → EReal) (ix3 b p 1) = code U b p 1 := by
  after_reads_at
  rw [code_1]
  exact congrArg (fun s => Ideal.div (Ideal.div s two - _) _ * ten) (add_comm (G := EReal) _ _)

theorem v157_at0 (b : Fin 64) (p : Fin 8732) :
    (upto p5 U 28 (Proc.devRef .tc main_v157) : S64x8732x2.Idx → EReal) (ix3 b p 0) = code U b p 2 := by
  after_reads_at
  rw [code_2]
  rfl

theorem v157_at1 (b : Fin 64) (p : Fin 8732) :
    (upto p5 U 28 (Proc.devRef .tc main_v157) : S64x8732x2.Idx → EReal) (ix3 b p 1) = code U b p 3 := by
  after_reads_at
  rw [code_3]
  rfl

/-- Four errors, each counted only where the prior is matched. -/
theorem four_terms (a b c d : EReal) (l : BitVec 32) :
    max a (-a) * (FloatOps.uitofp (F := Ideal) .f32 (IntOp.cmpi .ne l 0#32) : EReal) + max b (-b) * (FloatOps.uitofp (F := Ideal) .f32 (IntOp.cmpi .ne l 0#32) : EReal)
      + (max c (-c) * (FloatOps.uitofp (F := Ideal) .f32 (IntOp.cmpi .ne l 0#32) : EReal) + max d (-d) * (FloatOps.uitofp (F := Ideal) .f32 (IntOp.cmpi .ne l 0#32) : EReal))
      = (absE a + absE b + absE c + absE d) * ind l := by
  rw [bit_value]
  unfold ind absE
  by_cases h : l = 0#32
  · simp only [if_pos h, mul_zero, add_zero]
  · simp only [if_neg h, mul_one, add_assoc]

/-- The mean offset error of the matched priors. -/
theorem v173_at :
    (after p5 U (Proc.devRef .tc main_v173) : S_.Idx → EReal) ix0
      = (Ideal.div (∑ b : Fin 64, ∑ p : Fin 8732, (absE (guess U b p 0 - code U b p 0) + absE (guess U b p 1 - code U b p 1)
          + absE (guess U b p 2 - code U b p 2) + absE (guess U b p 3 - code U b p 3)) * ind (kind U b p))
        ((∑ b, ((count U b : ℝ) : EReal)) * Ideal.ofBits .f32 0x40800000#32) : EReal) := by
  after_reads_at
  refine congrArg₂ Ideal.div ?_ (congrArg (· * Ideal.ofBits .f32 0x40800000#32) (total_real U))
  refine Finset.sum_congr (M := EReal) rfl fun b _ => Finset.sum_congr (M := EReal) rfl fun p _ => ?_
  rw [Fin.sum_univ_two, Fin.sum_univ_two, v150_at0, v150_at1, v157_at0, v157_at1]
  exact four_terms _ _ _ _ _

end Cert.RefLoc

end

end
-- ==== Proof.RefCe.lean ====
module

public import proofs.«01_k».proof.Proof.RefLine
public import proofs.«01_k».proof.Proof.Soft
public import Idealize.ShloMosaic.Lib.Routing.OpsPair
public import Idealize.ShloMosaic.Lib.Pointwise

@[expose] public section

set_option maxRecDepth 16384

noncomputable section

/-! The reference's classification loss of every prior. -/

namespace Cert.RefCe

open Idealize.ShloMosaic Idealize.ShloMosaic.StableHlo Idealize.SL.Sem
open Cert.ReferenceIdeal Cert.RefLine Cert.Spec Cert.Folds

/-- A look-up of a class' entry in the row of its image and prior. -/
theorem gather_class {α : Type} (x : S64x8732x81.Idx → α) (idx : IVec S64x8732x1x1 32) (b : Fin 64) (p : Fin 8732) (c : Fin 81)
    (h : idx (ix4 b p 0 0) = BitVec.ofNat 32 c.val) :
    Host.gather gather_S64x8732x81_S64x8732x1x1_S64x8732x1_n_2_01_01_2_3_111 x idx (ix3 b p 0) = x (ix3 b p c) := by
  unfold Host.gather
  have hm : (2 : Fin 3) ∈ gather_S64x8732x81_S64x8732x1x1_S64x8732x1_n_2_01_01_2_3_111.startIndexMap := by decide
  have hs : gather_S64x8732x81_S64x8732x1x1_S64x8732x1_n_2_01_01_2_3_111.siIdx (ix3 b p 0)
      ⟨gather_S64x8732x81_S64x8732x1x1_S64x8732x1_n_2_01_01_2_3_111.startIndexMap.idxOf 2, List.idxOf_lt_length_iff.2 hm⟩ = ix4 b p 0 0 := by
    funext c
    fin_cases c <;> rfl
  refine congrArg x (funext fun a => Fin.ext ?_)
  show GatherDims.start _ _ _ _ + GatherDims.batchCoord _ _ _ + GatherDims.offCoord _ _ _ = _
  match a with
  | ⟨0, _⟩ =>
    unfold GatherDims.start
    refine (congrArg (· + b.val + 0)
      (dif_neg (show (0 : Fin 3) ∉ gather_S64x8732x81_S64x8732x1x1_S64x8732x1_n_2_01_01_2_3_111.startIndexMap by decide))).trans ?_
    show 0 + b.val + 0 = b.val
    omega
  | ⟨1, _⟩ =>
    unfold GatherDims.start
    refine (congrArg (· + p.val + 0)
      (dif_neg (show (1 : Fin 3) ∉ gather_S64x8732x81_S64x8732x1x1_S64x8732x1_n_2_01_01_2_3_111.startIndexMap by decide))).trans ?_
    show 0 + p.val + 0 = p.val
    omega
  | ⟨2, _⟩ =>
    unfold GatherDims.start
    have e := toInt_ofNat (a := c.val) (by have := c.isLt; omega)
    refine (congrArg (· + 0 + 0) (dif_pos hm)).trans ?_
    refine (congrArg (fun i => min (idx i).toInt.toNat (81 - 1) + 0 + 0) hs).trans ?_
    show min (idx (ix4 b p 0 0)).toInt.toNat (81 - 1) + 0 + 0 = c.val
    rw [h, e, Int.toNat_natCast]
    have := c.isLt
    omega

variable (U : Valuation τ sig (Elt Ideal))

/-- The largest entry of a row of scores. -/
theorem max_row (x : S64x8732x81.Idx → EReal) (init : S_.Idx → EReal) (h : S64x8732x81.ReducesTo [2] S64x8732) (hu : 0 < S_.numel)
    (hi : init (Shape.Idx.first hu) = ⊥) (b : Fin 64) (p : Fin 8732) :
    Host.reduce (FloatOps.maximumf (F := Ideal) (φ := .f32)) x init h hu (ix2 b p) = top fun k => x (ix3 b p k) := by
  rw [← fold_top]
  refine (Host.reduce_eq_fold (max : EReal → EReal → EReal) x init h hu (ix2 b p)).trans ?_
  rw [hi]
  exact Shape.ReducesTo.fold_fiber_r3_a2 h (ix2 b p) (max : EReal → EReal → EReal) ⊥ x

/-- The stage's parts: the largest scores, the shift by them, the logarithms of the softmax, the look-up, the two selections. -/
abbrev q1 : List (HloOp τ sig (Elt Ideal)) := p6.take 2
abbrev q2 : List (HloOp τ sig (Elt Ideal)) := (p6.drop 2).take 6
abbrev q3 : List (HloOp τ sig (Elt Ideal)) := (p6.drop 8).take 7
abbrev q4 : List (HloOp τ sig (Elt Ideal)) := (p6.drop 15).take 25
abbrev q5 : List (HloOp τ sig (Elt Ideal)) := p6.drop 40

theorem after_p6 : after p6 U = after q5 (after q4 (after q3 (after q2 (after q1 U)))) := by
  rw [← after_two, ← after_two, ← after_two, ← after_two]
  rfl

/-- The scores of a prior, as this stage finds them. -/
def scores (b : Fin 64) (p : Fin 8732) (c : Fin 81) : EReal := (U (Proc.devRef .tc main_arg1) : S64x8732x81.Idx → EReal) (ix3 b p c)
/-- The class of a prior, as this stage finds it. -/
def kind (b : Fin 64) (p : Fin 8732) : BitVec 32 := (U (Proc.devRef .tc main_v117) : S64x8732.Idx → BitVec 32) (ix2 b p)

/-- The largest scores, the shifted scores, the logarithms of the softmax, the losses and the matched priors, as a part finds them. -/
def big (b : Fin 64) (p : Fin 8732) : EReal := (U (Proc.devRef .tc main_call4_v0) : S64x8732.Idx → EReal) (ix2 b p)
def moved (b : Fin 64) (p : Fin 8732) (c : Fin 81) : EReal := (U (Proc.devRef .tc main_call4_v5) : S64x8732x81.Idx → EReal) (ix3 b p c)
def logs (b : Fin 64) (p : Fin 8732) (c : Fin 81) : EReal := (U (Proc.devRef .tc main_v174) : S64x8732x81.Idx → EReal) (ix3 b p c)
def loss (b : Fin 64) (p : Fin 8732) : EReal := (U (Proc.devRef .tc main_v178) : S64x8732.Idx → EReal) (ix2 b p)
def bit (b : Fin 64) (p : Fin 8732) : BitVec 1 := (U (Proc.devRef .tc main_v160) : S64x8732.Idx → BitVec 1) (ix2 b p)

theorem big_at (b : Fin 64) (p : Fin 8732) : big (after q1 U) b p = top (scores U b p) := by
  unfold big
  after_reads_simp
  simp -implicitDefEqProofs only [StableHlo.TRef.toBuf, StableHlo.TRef.ofBuf, cast_cast, cast_eq]
  clean_types
  exact max_row _ _ _ _ negInf b p

theorem moved_at (b : Fin 64) (p : Fin 8732) (c : Fin 81): moved (after q2 U) b p c = scores U b p c - max ⊥ (big U b p) := by
  unfold moved
  after_reads_at
  rw [negInf]
  rfl

theorem logs_at (b : Fin 64) (p : Fin 8732) (c : Fin 81):
    logs (after q3 U) b p c = moved U b p c - Ideal.log (∑ k : Fin 81, Ideal.exp (moved U b p k)) := by
  unfold logs
  after_reads_at
  rfl

/-- A class passes the look-up's range test. -/
theorem in_range : ∀ c : Fin 81, IntOp.andi (IntOp.cmpi CmpIPredicate.sge (BitVec.ofNat 32 c.val) 0#32)
    (IntOp.cmpi CmpIPredicate.sle (BitVec.ofNat 32 c.val) 80#32) = 1#1 := by
  decide

theorem one_bit : Finset.fold IntOp.andi 1#1 (fun _ : Fin 1 => 1#1) Finset.univ = 1#1 := by
  decide

theorem loss_at (b : Fin 64) (p : Fin 8732) (c : Fin 81) (h : kind U b p = BitVec.ofNat 32 c.val) : loss (after q4 U) b p = -logs U b p c := by
  unfold loss
  after_reads_at
  have hw : Scalar.select (IntOp.cmpi CmpIPredicate.slt (kind U b p) 0#32) (IntOp.addi (kind U b p) 81#32) (kind U b p) = BitVec.ofNat 32 c.val := by
    rw [h]
    exact Routing.wrap_of_lt _ _ (by have := c.isLt; rw [BitVec.toNat_ofNat]; omega)
  unfold kind at hw
  rw [hw, gather_class _ _ b p c hw, in_range c, one_bit]
  rfl

/-- What the earlier parts leave as it is. -/
theorem scores_q1 (b : Fin 64) (p : Fin 8732) (c : Fin 81) : scores (after q1 U) b p c = scores U b p c := by
  unfold scores
  after_reads_simp
theorem kind_kept (b : Fin 64) (p : Fin 8732) : kind (after q3 (after q2 (after q1 U))) b p = kind U b p := by
  unfold kind
  after_reads_simp
theorem bit_kept (b : Fin 64) (p : Fin 8732) : bit (after q4 (after q3 (after q2 (after q1 U)))) b p = bit U b p := by
  unfold bit
  after_reads_simp

/-- The loss of every prior whose class is one of the 81 and whose scores are finite. -/
theorem conf_at (b : Fin 64) (p : Fin 8732) (hs : ∀ c, ∃ r : ℝ, scores U b p c = r) (hc : ∃ c : Fin 81, kind U b p = BitVec.ofNat 32 c.val) :
    loss (after q4 (after q3 (after q2 (after q1 U)))) b p = ce (scores U b p) (kind U b p) := by
  obtain ⟨c, hc⟩ := hc
  rw [loss_at _ b p c (by rw [kind_kept, hc]), hc, ← Soft.shift (scores U b p) hs c, logs_at]
  simp only [moved_at, scores_q1, big_at]

theorem v180_part :
    (after q5 U (Proc.devRef .tc main_v180) : S_.Idx → EReal) ix0
      = (∑ b : Fin 64, ∑ p : Fin 8732, Scalar.select (bit U b p) (loss U b p) (0 : EReal) : EReal) := by
  after_reads_at
  refine Finset.sum_congr (M := EReal) rfl fun b _ => Finset.sum_congr (M := EReal) rfl fun p _ => ?_
  have z : (id (constant (F := Ideal) S_ FTy.f32 0#32) ix0 : EReal) = 0 := by
    simp [constant, Ideal.ofBits, Ideal.ieee]
  rw [z]
  rfl

theorem v181_part (b : Fin 64) (p : Fin 8732) :
    (after q5 U (Proc.devRef .tc main_v181) : S64x8732.Idx → EReal) (ix2 b p) = Scalar.select (bit U b p) (0 : EReal) (loss U b p) := by
  after_reads_at
  have z : (id (constant (F := Ideal) S_ FTy.f32 0#32) ix0 : EReal) = 0 := by
    simp [constant, Ideal.ofBits, Ideal.ieee]
  rw [z]
  rfl

variable (hs : ∀ b p c, ∃ r : ℝ, scores U b p c = r) (hc : ∀ b p, ∃ c : Fin 81, kind U b p = BitVec.ofNat 32 c.val)
  (hb : ∀ b p, bit U b p = BitVec.ofBool (decide (kind U b p ≠ 0#32)))
include hs hc hb

/-- The losses of the matched priors, summed. -/
theorem v180_at :
    (after p6 U (Proc.devRef .tc main_v180) : S_.Idx → EReal) ix0
      = (∑ b : Fin 64, ∑ p : Fin 8732, if kind U b p = 0#32 then 0 else ce (scores U b p) (kind U b p) : EReal) := by
  rw [after_p6]
  refine (v180_part _).trans (Finset.sum_congr (M := EReal) rfl fun b _ => Finset.sum_congr (M := EReal) rfl fun p _ => ?_)
  rw [bit_kept, conf_at U b p (hs b p) (hc b p), hb]
  by_cases h : kind U b p = 0#32
  · rw [if_pos h, decide_eq_false (by simpa using h)]
    rfl
  · rw [if_neg h, decide_eq_true h]
    rfl

/-- The losses of the background priors, zero for the matched ones. -/
theorem v181_at (b : Fin 64) (p : Fin 8732) :
    (after p6 U (Proc.devRef .tc main_v181) : S64x8732.Idx → EReal) (ix2 b p)
      = if kind U b p = 0#32 then ce (scores U b p) (kind U b p) else (0 : EReal) := by
  rw [after_p6]
  refine (v181_part _ b p).trans ?_
  rw [bit_kept, conf_at U b p (hs b p) (hc b p), hb]
  by_cases h : kind U b p = 0#32
  · rw [if_pos h, decide_eq_false (by simpa using h)]
    rfl
  · rw [if_neg h, decide_eq_true h]
    rfl

end Cert.RefCe

end

end
-- ==== Proof.RefHard.lean ====
module

public import proofs.«01_k».proof.Proof.RefLine
public import proofs.«01_k».proof.Proof.Folds
public import proofs.«01_k».proof.Proof.Topk
public import Idealize.ShloMosaic.Lib.SortFacts
public import Idealize.ShloMosaic.Lib.Pointwise

@[expose] public section

set_option maxRecDepth 16384

noncomputable section

/-! The reference's last stage: each row's background losses sorted, the largest of them summed, and the loss. -/

namespace Cert.RefHard

open Idealize.ShloMosaic Idealize.ShloMosaic.StableHlo Idealize.SL.Sem
open Cert.ReferenceIdeal Cert.RefLine Cert.Spec Cert.Folds

/-- The printed comparator is the strict order. -/
theorem comparator (l r : EReal) : comparator_f32_d1 (F := Ideal) l r = BitVec.ofBool (decide (l < r)) := by
  have z : (FloatOps.ofBits (F := Ideal) .f32 0x00000000#32 : EReal) = 0 := by
    show Ideal.ofBits .f32 0#32 = 0
    simp [Ideal.ofBits, Ideal.ieee]
  have h1 : ∀ a : EReal, Scalar.select (FloatOps.cmpf (F := Ideal) (φ := .f32) .oeq a 0) (0 : EReal) a = a := by
    intro a
    show Scalar.select (BitVec.ofBool (decide (a = 0))) (0 : EReal) a = a
    by_cases h : a = 0
    · rw [decide_eq_true h, h]; rfl
    · rw [decide_eq_false h]; rfl
  have h2 : ∀ a x y : EReal, Scalar.select (FloatOps.cmpf (F := Ideal) (φ := .f32) .une a a) x y = y := by
    intro a x y
    show Scalar.select (BitVec.ofBool (decide (a ≠ a))) x y = y
    rw [decide_eq_false (by simp)]
    rfl
  unfold comparator_f32_d1
  simp only [z]
  rw [h1 l, h1 r, h2 l, h2 r]
  rfl

/-- Values listed in sorted order rise. -/
theorem sorted_rises {n : ℕ} (v : Fin n → EReal) {i j : Fin n} (h : i ≤ j) :
    v (sortedFrom (fun k k' => decide (v k < v k')) i) ≤ v (sortedFrom (fun k k' => decide (v k < v k')) j) := by
  rcases eq_or_lt_of_le h with rfl | h
  · exact le_refl _
  · have w := sortedFrom_noInversion (fun k k' => decide (v k < v k')) (fun k k' => decide (v k < v k'))
      (fun a c h => by
        rw [decide_eq_true_eq] at h
        exact decide_eq_false (not_lt.2 h.le)) (fun _ _ h => h) (fun a c d h h' => by
        rw [decide_eq_false_iff_not, not_lt] at h h' ⊢
        exact h'.trans h) i j h
    exact not_lt.1 (decide_eq_false_iff_not.1 w)

/-- A sorted row is the row read through a permutation, and it rises. -/
theorem sort_row (x : S64x8732.Idx → EReal) (b : Fin 64) :
    ∃ σ : Equiv.Perm (Fin 8732), (∀ r, Host.sort S64x8732 1 (comparator_f32_d1 (F := Ideal)) x (ix2 b r) = x (ix2 b (σ r)))
      ∧ Monotone fun r => x (ix2 b (σ r)) := by
  obtain ⟨f, hf⟩ : ∃ f : Fin 8732 → Fin 8732, f = sortedFrom fun k k' : Fin 8732 => decide (x (ix2 b k) < x (ix2 b k')) := ⟨_, rfl⟩
  have inj : Function.Injective f := hf ▸ sortedFrom_injective _
  refine ⟨Equiv.ofBijective f (Finite.injective_iff_bijective.1 inj), fun r => ?_, fun r r' h => ?_⟩
  · have along : ∀ k : Fin 8732, (ix2 b r : S64x8732.Idx).along (1 : Fin 2) k = ix2 b k := by
      intro k
      funext a
      match a with
      | ⟨0, _⟩ => rfl
      | ⟨1, _⟩ => rfl
    have e : (fun k k' : Fin 8732 => comparator_f32_d1 (F := Ideal) (x ((ix2 b r : S64x8732.Idx).along (1 : Fin 2) k))
        (x ((ix2 b r : S64x8732.Idx).along (1 : Fin 2) k')) == 1#1) = fun k k' : Fin 8732 => decide (x (ix2 b k) < x (ix2 b k')) := by
      funext k k'
      rw [along, along, comparator]
      cases decide (x (ix2 b k) < x (ix2 b k')) <;> rfl
    show x ((ix2 b r : S64x8732.Idx).along (1 : Fin 2) (sortedFrom (fun k k' : Fin 8732 => comparator_f32_d1 (F := Ideal) (x ((ix2 b r : S64x8732.Idx).along (1 : Fin 2) k))
        (x ((ix2 b r : S64x8732.Idx).along (1 : Fin 2) k')) == 1#1) r)) = x (ix2 b (f r))
    rw [e]
    have h : (ix2 b r : S64x8732.Idx).along (1 : Fin 2) (f r) = ix2 b (f r) := along (f r)
    rw [hf] at h ⊢
    exact congrArg x h
  · have := sorted_rises (fun k => x (ix2 b k)) h
    rw [← hf] at this
    exact this

variable (U : Valuation τ sig (Elt Ideal))

/-- The background losses and the four sums, as this stage finds them. -/
def neg (b : Fin 64) (p : Fin 8732) : EReal := (U (Proc.devRef .tc main_v181) : S64x8732.Idx → EReal) (ix2 b p)

theorem word_test {α : Type} (r N : ℕ) (hr : r < 8732) (hN : N ≤ 8732) (x y : α) :
    Scalar.select (IntOp.cmpi .slt (BitVec.ofNat 32 r) (IntOp.muli 3#32 (BitVec.ofNat 32 N))) x y = if r < 3 * N then x else y := by
  have h : IntOp.muli 3#32 (BitVec.ofNat 32 N) = BitVec.ofNat 32 (3 * N) := by
    rw [BitVec.ofNat_mul]
    rfl
  rw [h]
  unfold IntOp.cmpi Scalar.select
  have : (BitVec.ofNat 32 r).slt (BitVec.ofNat 32 (3 * N)) = decide (r < 3 * N) := by
    rw [BitVec.slt, toInt_ofNat (by omega), toInt_ofNat (by omega)]
    exact decide_eq_decide.2 Int.ofNat_lt
  simp only [this]
  by_cases e : r < 3 * N <;> simp [e]

/-- The loss: each row's largest background losses through the row's sorting permutation, the other sums as found. -/
theorem v198_at (N : Fin 64 → ℕ) (hN : ∀ b, N b ≤ 8732) (h : ∀ b, (U (Proc.devRef .tc main_v162) : S64.Idx → BitVec 32) (ix1 b) = BitVec.ofNat 32 (N b)) :
    ∃ σ : Fin 64 → Equiv.Perm (Fin 8732), (∀ b, Antitone fun r => neg U b (σ b r)) ∧
    (after p7 U (Proc.devRef .tc main_v198) : S_.Idx → EReal) ix0
      = (Ideal.div ((∑ b : Fin 64, ∑ r : Fin 8732, if r.val < 3 * N b then neg U b (σ b r) else 0)
          + (U (Proc.devRef .tc main_v180) : S_.Idx → EReal) ix0) ((U (Proc.devRef .tc main_v164) : S_.Idx → EReal) ix0)
        + (U (Proc.devRef .tc main_v173) : S_.Idx → EReal) ix0 : EReal) := by
  choose σ h1 h2 using sort_row (Host.negf (F := Ideal) (φ := .f32) (U (Proc.devRef .tc main_v181) : S64x8732.Idx → EReal))
  refine ⟨σ, fun b r r' hr => ?_, ?_⟩
  · have := h2 b hr
    exact EReal.neg_le_neg_iff.1 this
  · after_reads_at
    refine congrArg₂ (· + ·) (congrArg₂ Ideal.div (congrArg₂ (· + ·) ?_ rfl) rfl) rfl
    refine Finset.sum_congr (M := EReal) rfl fun b _ => Finset.sum_congr (M := EReal) rfl fun r _ => ?_
    have z : (id (constant (F := Ideal) S_ FTy.f32 0#32) ix0 : EReal) = 0 := by
      simp [constant, Ideal.ofBits, Ideal.ieee]
    rw [h b, word_test r.val (N b) r.isLt (hN b), h1 b r, z]
    refine if_congr Iff.rfl ?_ rfl
    exact neg_neg (G := EReal) _

end Cert.RefHard

end

end
-- ==== Proof.RefTame.lean ====
module

public import proofs.«01_k».proof.Proof.RefLine
public import Idealize.ShloMosaic.Lib.StableHlo.RunHlo

@[expose] public section

set_option maxRecDepth 16384

noncomputable section

/-! Each of the reference's operations touches host buffers only and asks for no fresh ones. -/

namespace Cert.RefTame

open Idealize.ShloMosaic Idealize.ShloMosaic.StableHlo Idealize.SL.Sem Cert.ReferenceIdeal Cert.RefLine

/-- An operation that touches host buffers only and asks for no fresh ones. -/
def Tame (op : HloOp τ sig (Elt Ideal)) : Prop := op.bufs ⊆ tcRefs τ sig ∧ op.fresh = ∅

/-- Every operation of the list is such. -/
def AllTame (l : List (HloOp τ sig (Elt Ideal))) : Prop := ∀ op ∈ l, Tame op

theorem none : AllTame [] := fun _ h => nomatch h

theorem cons {op : HloOp τ sig (Elt Ideal)} {l : List (HloOp τ sig (Elt Ideal))} (h : Tame op) (hl : AllTame l) : AllTame (op :: l) := by
  intro o ho
  rcases List.mem_cons.1 ho with rfl | ho
  · exact h
  · exact hl o ho

theorem append {l l' : List (HloOp τ sig (Elt Ideal))} (h : AllTame l) (h' : AllTame l') : AllTame (l ++ l') := by
  intro o ho
  rcases List.mem_append.1 ho with ho | ho
  · exact h o ho
  · exact h' o ho

theorem last (b : Ref sig .tc) : ({Proc.devRef .tc b} : Finset (DevRef τ sig)) ⊆ tcRefs τ sig :=
  Finset.singleton_subset_iff.2 (devRef_mem_tcRefs b)

theorem more (b : Ref sig .tc) {s : Finset (DevRef τ sig)} (h : s ⊆ tcRefs τ sig) : insert (Proc.devRef .tc b) s ⊆ tcRefs τ sig :=
  Finset.insert_subset (devRef_mem_tcRefs b) h

set_option maxHeartbeats 4000000 in
/-- The operations of window 0. -/
theorem tame0 : AllTame line0.1 := by
  unfold line0
  dsimp only
  repeat (first
    | exact none
    | refine cons ⟨by first | exact last _ | exact more _ (last _) | exact more _ (more _ (last _)) | exact more _ (more _ (more _ (last _))) | exact more _ (more _ (more _ (more _ (last _)))), rfl⟩ ?_
    | apply append)

set_option maxHeartbeats 4000000 in
/-- The operations of window 1. -/
theorem tame1 : AllTame line1.1 := by
  unfold line1
  dsimp only
  repeat (first
    | exact none
    | refine cons ⟨by first | exact last _ | exact more _ (last _) | exact more _ (more _ (last _)) | exact more _ (more _ (more _ (last _))) | exact more _ (more _ (more _ (more _ (last _)))), rfl⟩ ?_
    | apply append)

set_option maxHeartbeats 4000000 in
/-- The operations of window 2. -/
theorem tame2 : AllTame line2.1 := by
  unfold line2
  dsimp only
  repeat (first
    | exact none
    | refine cons ⟨by first | exact last _ | exact more _ (last _) | exact more _ (more _ (last _)) | exact more _ (more _ (more _ (last _))) | exact more _ (more _ (more _ (more _ (last _)))), rfl⟩ ?_
    | apply append)

set_option maxHeartbeats 4000000 in
/-- The operations of window 3. -/
theorem tame3 : AllTame line3.1 := by
  unfold line3
  dsimp only
  repeat (first
    | exact none
    | refine cons ⟨by first | exact last _ | exact more _ (last _) | exact more _ (more _ (last _)) | exact more _ (more _ (more _ (last _))) | exact more _ (more _ (more _ (more _ (last _)))), rfl⟩ ?_
    | apply append)

/-- The reference's operations are such. -/
theorem tame : AllTame ops := append tame0 (append tame1 (append tame2 tame3))

end Cert.RefTame

end

end
-- ==== Proof.RefRun.lean ====
module

public import proofs.«01_k».proof.Proof.RefIou
public import proofs.«01_k».proof.Proof.RefArg
public import proofs.«01_k».proof.Proof.RefScatter
public import proofs.«01_k».proof.Proof.RefGather
public import proofs.«01_k».proof.Proof.RefLoc
public import proofs.«01_k».proof.Proof.RefCe
public import proofs.«01_k».proof.Proof.RefHard
public import proofs.«01_k».proof.Proof.RefTame
public import Idealize.ShloMosaic.Lib.StableHlo.RunHlo
public import Idealize.ShloMosaic.Lib.Quiescent

@[expose] public section

set_option maxRecDepth 16384

noncomputable section

/-! The reference's stages put together: its run, and what its result holds. -/

namespace Cert.RefRun

open Idealize.ShloMosaic Idealize.ShloMosaic.StableHlo Idealize.SL.Sem
open Cert.ReferenceIdeal Cert.RefLine Cert.Spec Cert.Folds

section Kept

variable (U : Valuation τ sig (Elt Ideal))

/-- The stages leave the argument arrays as they are. -/
theorem kept1_0 : after p1 U (Proc.devRef .tc main_arg0) = U (Proc.devRef .tc main_arg0) := by after_reads_simp
theorem kept1_1 : after p1 U (Proc.devRef .tc main_arg1) = U (Proc.devRef .tc main_arg1) := by after_reads_simp
theorem kept1_2 : after p1 U (Proc.devRef .tc main_arg2) = U (Proc.devRef .tc main_arg2) := by after_reads_simp
theorem kept1_3 : after p1 U (Proc.devRef .tc main_arg3) = U (Proc.devRef .tc main_arg3) := by after_reads_simp
theorem kept1_4 : after p1 U (Proc.devRef .tc main_arg4) = U (Proc.devRef .tc main_arg4) := by after_reads_simp
theorem kept2_0 : after p2 U (Proc.devRef .tc main_arg0) = U (Proc.devRef .tc main_arg0) := by after_reads_simp
theorem kept2_1 : after p2 U (Proc.devRef .tc main_arg1) = U (Proc.devRef .tc main_arg1) := by after_reads_simp
theorem kept2_2 : after p2 U (Proc.devRef .tc main_arg2) = U (Proc.devRef .tc main_arg2) := by after_reads_simp
theorem kept2_3 : after p2 U (Proc.devRef .tc main_arg3) = U (Proc.devRef .tc main_arg3) := by after_reads_simp
theorem kept2_4 : after p2 U (Proc.devRef .tc main_arg4) = U (Proc.devRef .tc main_arg4) := by after_reads_simp
theorem kept3_0 : after p3 U (Proc.devRef .tc main_arg0) = U (Proc.devRef .tc main_arg0) := by after_reads_simp
theorem kept3_1 : after p3 U (Proc.devRef .tc main_arg1) = U (Proc.devRef .tc main_arg1) := by after_reads_simp
theorem kept3_2 : after p3 U (Proc.devRef .tc main_arg2) = U (Proc.devRef .tc main_arg2) := by after_reads_simp
theorem kept3_3 : after p3 U (Proc.devRef .tc main_arg3) = U (Proc.devRef .tc main_arg3) := by after_reads_simp
theorem kept3_4 : after p3 U (Proc.devRef .tc main_arg4) = U (Proc.devRef .tc main_arg4) := by after_reads_simp
theorem kept4_0 : after p4 U (Proc.devRef .tc main_arg0) = U (Proc.devRef .tc main_arg0) := by after_reads_simp
theorem kept4_1 : after p4 U (Proc.devRef .tc main_arg1) = U (Proc.devRef .tc main_arg1) := by after_reads_simp
theorem kept4_2 : after p4 U (Proc.devRef .tc main_arg2) = U (Proc.devRef .tc main_arg2) := by after_reads_simp
theorem kept4_3 : after p4 U (Proc.devRef .tc main_arg3) = U (Proc.devRef .tc main_arg3) := by after_reads_simp
theorem kept4_4 : after p4 U (Proc.devRef .tc main_arg4) = U (Proc.devRef .tc main_arg4) := by after_reads_simp
theorem kept5_0 : after p5 U (Proc.devRef .tc main_arg0) = U (Proc.devRef .tc main_arg0) := by after_reads_simp
theorem kept5_1 : after p5 U (Proc.devRef .tc main_arg1) = U (Proc.devRef .tc main_arg1) := by after_reads_simp
theorem kept5_2 : after p5 U (Proc.devRef .tc main_arg2) = U (Proc.devRef .tc main_arg2) := by after_reads_simp
theorem kept5_3 : after p5 U (Proc.devRef .tc main_arg3) = U (Proc.devRef .tc main_arg3) := by after_reads_simp
theorem kept5_4 : after p5 U (Proc.devRef .tc main_arg4) = U (Proc.devRef .tc main_arg4) := by after_reads_simp
theorem kept6_0 : after p6 U (Proc.devRef .tc main_arg0) = U (Proc.devRef .tc main_arg0) := by after_reads_simp
theorem kept6_1 : after p6 U (Proc.devRef .tc main_arg1) = U (Proc.devRef .tc main_arg1) := by after_reads_simp
theorem kept6_2 : after p6 U (Proc.devRef .tc main_arg2) = U (Proc.devRef .tc main_arg2) := by after_reads_simp
theorem kept6_3 : after p6 U (Proc.devRef .tc main_arg3) = U (Proc.devRef .tc main_arg3) := by after_reads_simp
theorem kept6_4 : after p6 U (Proc.devRef .tc main_arg4) = U (Proc.devRef .tc main_arg4) := by after_reads_simp
theorem kept7_0 : after p7 U (Proc.devRef .tc main_arg0) = U (Proc.devRef .tc main_arg0) := by after_reads_simp
theorem kept7_1 : after p7 U (Proc.devRef .tc main_arg1) = U (Proc.devRef .tc main_arg1) := by after_reads_simp
theorem kept7_2 : after p7 U (Proc.devRef .tc main_arg2) = U (Proc.devRef .tc main_arg2) := by after_reads_simp
theorem kept7_3 : after p7 U (Proc.devRef .tc main_arg3) = U (Proc.devRef .tc main_arg3) := by after_reads_simp
theorem kept7_4 : after p7 U (Proc.devRef .tc main_arg4) = U (Proc.devRef .tc main_arg4) := by after_reads_simp

/-- The classes and the sums that a later stage reads are kept between. -/
theorem kept5_kind : after p5 U (Proc.devRef .tc main_v117) = U (Proc.devRef .tc main_v117) := by after_reads_simp
theorem kept6_count : after p6 U (Proc.devRef .tc main_v162) = U (Proc.devRef .tc main_v162) := by after_reads_simp
theorem kept6_total : after p6 U (Proc.devRef .tc main_v164) = U (Proc.devRef .tc main_v164) := by after_reads_simp
theorem kept6_loc : after p6 U (Proc.devRef .tc main_v173) = U (Proc.devRef .tc main_v173) := by after_reads_simp

theorem kept_0 : after ops U (Proc.devRef .tc main_arg0) = U (Proc.devRef .tc main_arg0) := by
  rw [after_ops, kept7_0, kept6_0, kept5_0, kept4_0, kept3_0, kept2_0, kept1_0]
theorem kept_1 : after ops U (Proc.devRef .tc main_arg1) = U (Proc.devRef .tc main_arg1) := by
  rw [after_ops, kept7_1, kept6_1, kept5_1, kept4_1, kept3_1, kept2_1, kept1_1]
theorem kept_2 : after ops U (Proc.devRef .tc main_arg2) = U (Proc.devRef .tc main_arg2) := by
  rw [after_ops, kept7_2, kept6_2, kept5_2, kept4_2, kept3_2, kept2_2, kept1_2]
theorem kept_3 : after ops U (Proc.devRef .tc main_arg3) = U (Proc.devRef .tc main_arg3) := by
  rw [after_ops, kept7_3, kept6_3, kept5_3, kept4_3, kept3_3, kept2_3, kept1_3]
theorem kept_4 : after ops U (Proc.devRef .tc main_arg4) = U (Proc.devRef .tc main_arg4) := by
  rw [after_ops, kept7_4, kept6_4, kept5_4, kept4_4, kept3_4, kept2_4, kept1_4]

end Kept

section Run

variable (m : (ℓ : Loc nD τ sig) → Buf (Elt Ideal) ℓ) (ρ : Dev nD → PrngReg)

/-- Every run of the reference ends with each array at what the line of operations leaves in it. -/
theorem run_all : θ_run defs (onTc (τ := τ) (main (F := Ideal))) ⟨m, fun _ => 0, ρ⟩ (fun r =>
      ∀ (d : Dev nD) (b : Ref sig .tc), r.2.mem ((d.tc : Thread nD τ).loc b) = after ops (launchContents m d) (Proc.devRef .tc b)) :=
  run_hlo defs main ops_isSeq (by decide) (by decide) (List.forall_iff_forall_mem.2 fun o h => (RefTame.tame o h).1)
    (fun o h => (RefTame.tame o h).2) m ρ

/-- Every run of the reference ends with the result at what the line leaves in it and the arguments unchanged. -/
theorem run : θ_run defs (onTc (τ := τ) (main (F := Ideal))) ⟨m, fun _ => 0, ρ⟩ (fun r => ∀ c : Dev nD,
      r.2.mem ((c.tc : Thread nD τ).loc main_v198) = after ops (launchContents m c) (Proc.devRef .tc main_v198)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (run_all m ρ) fun _ h c => ⟨h c main_v198, (h c main_arg0).trans (kept_0 _), (h c main_arg1).trans (kept_1 _),
    (h c main_arg2).trans (kept_2 _), (h c main_arg3).trans (kept_3 _), (h c main_arg4).trans (kept_4 _)⟩

/-- Every run of the reference ends with the arguments unchanged; it has no semaphores. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_mono (run m ρ) fun r h => ⟨fun c => (h c).2, sem_eq_zero_of_no_sems (by decide) r.2⟩

end Run

section Value

variable (U : Valuation τ sig (Elt Ideal))

/-- The arguments on plain indices. -/
def rT (b : Fin 64) (p : Fin 8732) (k : Fin 4) : EReal := (U (Proc.devRef .tc main_arg0) : S64x8732x4.Idx → EReal) (ix3 b p k)
def rS (b : Fin 64) (p : Fin 8732) (k : Fin 81) : EReal := (U (Proc.devRef .tc main_arg1) : S64x8732x81.Idx → EReal) (ix3 b p k)
abbrev rB := RefIou.rB U
def rL (b : Fin 64) (o : Fin 16) : BitVec 32 := (U (Proc.devRef .tc main_arg3) : S64x16.Idx → BitVec 32) (ix2 b o)
abbrev rP := RefIou.rP U

/-- The class of a prior, its loss, the background losses and the number of matched priors. -/
def rc (b : Fin 64) (p : Fin 8732) : BitVec 32 := cls (rB U b) (rP U) (rL U b) p
def rl (b : Fin 64) (p : Fin 8732) : EReal := ce (rS U b p) (rc U b p)
def rneg (b : Fin 64) (p : Fin 8732) : EReal := if rc U b p = 0#32 then rl U b p else 0
def rpos (b : Fin 64) : ℕ := (Finset.univ.filter fun p : Fin 8732 => rc U b p ≠ 0#32).card

/-- The contents after the stages. -/
def U1 : Valuation τ sig (Elt Ideal) := after p1 U
def U2 : Valuation τ sig (Elt Ideal) := after p2 (U1 U)
def U3 : Valuation τ sig (Elt Ideal) := after p3 (U2 U)
def U4 : Valuation τ sig (Elt Ideal) := after p4 (U3 U)
def U5 : Valuation τ sig (Elt Ideal) := after p5 (U4 U)
def U6 : Valuation τ sig (Elt Ideal) := after p6 (U5 U)

theorem arg0_4 : U4 U (Proc.devRef .tc main_arg0) = U (Proc.devRef .tc main_arg0) :=
  (kept4_0 _).trans ((kept3_0 _).trans ((kept2_0 _).trans (kept1_0 _)))
theorem arg1_5 : U5 U (Proc.devRef .tc main_arg1) = U (Proc.devRef .tc main_arg1) :=
  (kept5_1 _).trans ((kept4_1 _).trans ((kept3_1 _).trans ((kept2_1 _).trans (kept1_1 _))))
theorem arg2_3 : U3 U (Proc.devRef .tc main_arg2) = U (Proc.devRef .tc main_arg2) := (kept3_2 _).trans ((kept2_2 _).trans (kept1_2 _))
theorem arg3_3 : U3 U (Proc.devRef .tc main_arg3) = U (Proc.devRef .tc main_arg3) := (kept3_3 _).trans ((kept2_3 _).trans (kept1_3 _))
theorem arg4_4 : U4 U (Proc.devRef .tc main_arg4) = U (Proc.devRef .tc main_arg4) :=
  (kept4_4 _).trans ((kept3_4 _).trans ((kept2_4 _).trans (kept1_4 _)))
theorem kind_5 : U5 U (Proc.devRef .tc main_v117) = U4 U (Proc.devRef .tc main_v117) := kept5_kind _
theorem count_6 : U6 U (Proc.devRef .tc main_v162) = U5 U (Proc.devRef .tc main_v162) := kept6_count _
theorem total_6 : U6 U (Proc.devRef .tc main_v164) = U5 U (Proc.devRef .tc main_v164) := kept6_total _
theorem loc_6 : U6 U (Proc.devRef .tc main_v173) = U5 U (Proc.devRef .tc main_v173) := kept6_loc _

theorem ov_eq (b : Fin 64) (o : Fin 16) (p : Fin 8732) : RefArg.ov (U1 U) b o p = iou (rB U b o) (rP U p) := RefIou.v60_at U b o p

theorem found2 : RefScatter.Found (rB U) (rP U) (U2 U) where
  best b o := by
    refine (RefArg.v63_at (U1 U) b o).trans ?_
    simp only [ov_eq]
    rfl
  fit b p := by
    refine (RefArg.v61_at (U1 U) b p).trans ?_
    simp only [ov_eq]
  most b p := by
    refine (RefArg.v62_at (U1 U) b p).trans ?_
    simp only [ov_eq]

theorem found3 : RefGather.Found (rB U) (rP U) (U3 U) where
  row b := RefScatter.v65_at (U2 U) b
  object b p := RefScatter.v83_at (rB U) (rP U) (U2 U) (found2 U) b p
  low b p := RefScatter.v101_at (rB U) (rP U) (U2 U) (found2 U) b p

theorem kind_eq (b : Fin 64) (p : Fin 8732) : RefLoc.kind (U4 U) b p = rc U b p := by
  refine (RefGather.v117_at (rB U) (rP U) (U3 U) (found3 U) b p).trans ?_
  unfold rc rL
  rw [arg3_3]

theorem kind_eq' (b : Fin 64) (p : Fin 8732) : RefCe.kind (U5 U) b p = rc U b p := by
  unfold RefCe.kind
  rw [kind_5]
  exact kind_eq U b p

theorem box_eq (b : Fin 64) (p : Fin 8732) (k : Fin 4) :
    (U4 U (Proc.devRef .tc main_v132) : S64x8732x4.Idx → EReal) (ix3 b p k) = rB U b (obj (rB U b) (rP U) p) k := by
  refine (RefGather.v132_at (rB U) (rP U) (U3 U) (found3 U) b p k).trans ?_
  rw [arg2_3]
  rfl

theorem prior_eq (p : Fin 8732) (k : Fin 4) : (U4 U (Proc.devRef .tc main_arg4) : S8732x4.Idx → EReal) (ix2 p k) = rP U p k := by
  rw [arg4_4]
  rfl

theorem code_0 (b : Fin 64) (p : Fin 8732) : RefLoc.code (U4 U) b p 0
    = encC (rB U b (obj (rB U b) (rP U) p) 0) (rB U b (obj (rB U b) (rP U) p) 2) (rP U p 0) (rP U p 2) := by
  rw [← box_eq, ← box_eq, ← prior_eq, ← prior_eq]
  exact RefLoc.code_0 (U4 U) b p
theorem code_1 (b : Fin 64) (p : Fin 8732) : RefLoc.code (U4 U) b p 1
    = encC (rB U b (obj (rB U b) (rP U) p) 1) (rB U b (obj (rB U b) (rP U) p) 3) (rP U p 1) (rP U p 3) := by
  rw [← box_eq, ← box_eq, ← prior_eq, ← prior_eq]
  exact RefLoc.code_1 (U4 U) b p
theorem code_2 (b : Fin 64) (p : Fin 8732) : RefLoc.code (U4 U) b p 2
    = encW (rB U b (obj (rB U b) (rP U) p) 0) (rB U b (obj (rB U b) (rP U) p) 2) (rP U p 2) := by
  rw [← box_eq, ← box_eq, ← prior_eq]
  exact RefLoc.code_2 (U4 U) b p
theorem code_3 (b : Fin 64) (p : Fin 8732) : RefLoc.code (U4 U) b p 3
    = encW (rB U b (obj (rB U b) (rP U) p) 1) (rB U b (obj (rB U b) (rP U) p) 3) (rP U p 3) := by
  rw [← box_eq, ← box_eq, ← prior_eq]
  exact RefLoc.code_3 (U4 U) b p

theorem guess_eq (b : Fin 64) (p : Fin 8732) (k : Fin 4) : RefLoc.guess (U4 U) b p k = rT U b p k := by
  unfold RefLoc.guess rT
  rw [arg0_4]

theorem scores_eq (b : Fin 64) (p : Fin 8732) : RefCe.scores (U5 U) b p = rS U b p := by
  funext k
  unfold RefCe.scores rS
  rw [arg1_5]

theorem count_eq (b : Fin 64) : RefLoc.count (U4 U) b = rpos U b := by
  unfold RefLoc.count rpos
  simp only [kind_eq]

theorem offset_eq (b : Fin 64) (p : Fin 8732) :
    absE (RefLoc.guess (U4 U) b p 0 - RefLoc.code (U4 U) b p 0) + absE (RefLoc.guess (U4 U) b p 1 - RefLoc.code (U4 U) b p 1)
      + absE (RefLoc.guess (U4 U) b p 2 - RefLoc.code (U4 U) b p 2) + absE (RefLoc.guess (U4 U) b p 3 - RefLoc.code (U4 U) b p 3)
      = offset (rB U b) (rP U) (rT U b) p := by
  rw [code_0, code_1, code_2, code_3, guess_eq, guess_eq, guess_eq, guess_eq]
  rfl

/-- The mean offset error. -/
theorem loc_eq : (U5 U (Proc.devRef .tc main_v173) : S_.Idx → EReal) ix0
    = (Ideal.div (∑ b : Fin 64, ∑ p : Fin 8732, offset (rB U b) (rP U) (rT U b) p * ind (rc U b p))
        ((∑ b, ((rpos U b : ℝ) : EReal)) * Ideal.ofBits .f32 0x40800000#32) : EReal) := by
  refine (RefLoc.v173_at (U4 U)).trans ?_
  simp only [offset_eq, kind_eq, count_eq]

variable (hs : ∀ b p c, ∃ r : ℝ, rS U b p c = r) (hc : ∀ b p, ∃ c : Fin 81, rc U b p = BitVec.ofNat 32 c.val)

include hs hc

/-- The reference's result: the offset errors, the losses of the matched priors, and each image's largest background
    losses, listed through a permutation that sorts them. -/
theorem result : ∃ σ : Fin 64 → Equiv.Perm (Fin 8732), (∀ b, Antitone fun r => rneg U b (σ b r)) ∧
    (after ops U (Proc.devRef .tc main_v198) : S_.Idx → EReal) ix0
      = (Ideal.div ((∑ b : Fin 64, ∑ r : Fin 8732, if r.val < 3 * rpos U b then rneg U b (σ b r) else 0)
            + ∑ b, ∑ p, if rc U b p = 0#32 then 0 else rl U b p) (∑ b, ((rpos U b : ℝ) : EReal))
          + Ideal.div (∑ b : Fin 64, ∑ p : Fin 8732, offset (rB U b) (rP U) (rT U b) p * ind (rc U b p))
              ((∑ b, ((rpos U b : ℝ) : EReal)) * Ideal.ofBits .f32 0x40800000#32) : EReal) := by
  have hs' : ∀ b p c, ∃ r : ℝ, RefCe.scores (U5 U) b p c = r := fun b p c => by rw [scores_eq]; exact hs b p c
  have hc' : ∀ b p, ∃ c : Fin 81, RefCe.kind (U5 U) b p = BitVec.ofNat 32 c.val := fun b p => by rw [kind_eq']; exact hc b p
  have hb' : ∀ b p, RefCe.bit (U5 U) b p = BitVec.ofBool (decide (RefCe.kind (U5 U) b p ≠ 0#32)) := fun b p => by
    rw [kind_eq', ← kind_eq]
    exact RefLoc.v160_at (U4 U) b p
  have hn : ∀ b p, RefHard.neg (U6 U) b p = rneg U b p := fun b p => by
    refine (RefCe.v181_at (U5 U) hs' hc' hb' b p).trans ?_
    rw [kind_eq', scores_eq]
    rfl
  obtain ⟨σ, h1, h2⟩ := RefHard.v198_at (U6 U) (rpos U) (fun b => count_eq U b ▸ RefLoc.count_le (U4 U) b) (fun b => by
    rw [count_6, ← count_eq]
    exact RefLoc.v162_at (U4 U) b)
  refine ⟨σ, fun b => ?_, ?_⟩
  · have := h1 b
    simp only [hn] at this
    exact this
  · rw [after_ops]
    refine h2.trans ?_
    have e1 : (U6 U (Proc.devRef .tc main_v180) : S_.Idx → EReal) ix0 = (∑ b, ∑ p, if rc U b p = 0#32 then 0 else rl U b p : EReal) := by
      refine (RefCe.v180_at (U5 U) hs' hc' hb').trans ?_
      simp only [kind_eq', scores_eq]
      rfl
    have e2 : (U6 U (Proc.devRef .tc main_v164) : S_.Idx → EReal) ix0 = (∑ b, ((rpos U b : ℝ) : EReal) : EReal) := by
      rw [total_6]
      refine (RefLoc.v164_at (U4 U)).trans ?_
      simp only [count_eq]
    have e3 := loc_eq U
    rw [← loc_6] at e3
    rw [e1, e2, e3]
    simp only [hn]

end Value

end Cert.RefRun

end

end
-- ==== Proof.Pre.lean ====
module

public import proofs.«01_k».proof.Defs
public import proofs.«01_k».proof.Proof.Gen.Pre_scores_finite_labels_in_range
public import Idealize.ShloMosaic.Lib.ReduceAll
public import Idealize.ShloMosaic.Lib.WordCmp
public import Idealize.ShloMosaic.Lib.Pointwise

@[expose] public section

set_option maxRecDepth 16384

noncomputable section

/-! What the precondition says: every score is a real number and every label one of the 81 classes. -/

namespace Cert.Pre

open Idealize.ShloMosaic Cert.Pre_scores_finite_labels_in_range

local instance : Facts := Cert.Pre_scores_finite_labels_in_range.Gen.facts

variable (a0 : S64x8732x4.Idx → EReal) (a1 : S64x8732x81.Idx → EReal) (a2 : S64x16x4.Idx → EReal) (a3 : S64x16.Idx → BitVec 32)
  (a4 : S8732x4.Idx → EReal)

theorem both {p q : BitVec 1} (h : IntOp.andi p q = 1#1) : p = 1#1 ∧ q = 1#1 := by
  revert p q; decide

/-- A magnitude below infinity is a real number's. -/
theorem real_of_abs (a : EReal) (h : max a (-a) < ⊤) : ∃ r : ℝ, a = r := by
  induction a with
  | bot => simp at h
  | top => simp at h
  | coe r => exact ⟨r, rfl⟩

theorem inf : Ideal.ofBits .f32 0x7F800000#32 = ⊤ := by simp [Ideal.ofBits, Ideal.ieee]

/-- Every score is a real number. -/
theorem scores (h : fn (F := Ideal) a0 a1 a2 a3 a4 = fun _ => 1#1) (i : S64x8732x81.Idx) : ∃ r : ℝ, a1 i = r := by
  have h1 := (both (congrFun h (fun k => k.elim0))).1
  have h2 := Host.reduce_andi_eq_one _ _ _ _ _ h1 i (funext fun k => k.elim0)
  refine real_of_abs (a1 i) ?_
  have h3 : BitVec.ofBool (decide (max (a1 i) (-(a1 i)) < Ideal.ofBits .f32 0x7F800000#32)) = 1#1 := h2
  rw [inf] at h3
  by_contra hc
  rw [decide_eq_false hc] at h3
  exact absurd h3 (by decide)

/-- Every label is one of the 81 classes. -/
theorem labels (h : fn (F := Ideal) a0 a1 a2 a3 a4 = fun _ => 1#1) (i : S64x16.Idx) : ∃ c : Fin 81, a3 i = BitVec.ofNat 32 c.val := by
  have h1 := (both (congrFun h (fun k => k.elim0))).2
  have h2 := Host.reduce_andi_eq_one _ _ _ _ _ h1 i (funext fun k => k.elim0)
  have h3 : IntOp.andi (IntOp.cmpi .sge (a3 i) 0#32) (IntOp.cmpi .slt (a3 i) 81#32) = 1#1 := h2
  have h4 : (a3 i).toNat < 81 := by
    revert h3
    generalize a3 i = v
    word_cmp
  exact ⟨⟨(a3 i).toNat, h4⟩, by simp⟩

end Cert.Pre

end

end
-- ==== Proof.Equation.lean ====
module

public import proofs.«01_k».proof.Proof.KRun
public import proofs.«01_k».proof.Proof.RefRun
public import proofs.«01_k».proof.Proof.Pre

@[expose] public section

set_option maxRecDepth 16384

noncomputable section

/-! The kernel's loss and the reference's are equal. -/

namespace Cert.Equation

open Idealize.ShloMosaic Idealize.ShloMosaic.StableHlo Idealize.SL.Sem Cert.Spec

/-- The sum of a row's first values in sorted order is what the kernel's threshold gives. -/
theorem hard_eq (v : Fin 8732 → EReal) (σ : Equiv.Perm (Fin 8732)) (hσ : Antitone fun r => v (σ r)) (hv : ∀ p, 0 ≤ v p) (k : ℕ) (t : EReal)
    (ht : Topk.IsThr v k t) : (∑ r : Fin 8732, if r.val < k then v (σ r) else 0) = KCombine.hard v k t := by
  unfold KCombine.hard
  by_cases hk : 0 < k
  · rw [if_pos hk]
    exact Topk.prefix_sum v k (fun r => v (σ r)) hσ σ (fun _ => rfl) hv ht
  · rw [if_neg hk]
    exact Finset.sum_eq_zero fun r _ => if_neg (by omega)

/-- A prior's class is background or a label. -/
theorem cls_range (B : Fin 16 → Fin 4 → EReal) (Q : Fin 8732 → Fin 4 → EReal) (L : Fin 16 → BitVec 32)
    (hL : ∀ o, ∃ c : Fin 81, L o = BitVec.ofNat 32 c.val) (p : Fin 8732) : ∃ c : Fin 81, cls B Q L p = BitVec.ofNat 32 c.val := by
  unfold cls
  split
  · exact ⟨0, rfl⟩
  · exact hL _

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (U : Valuation Cert.ReferenceIdeal.τ Cert.ReferenceIdeal.sig (Elt Ideal))

/-- The two programs' results, from equal arguments with real scores and labels in range. -/
theorem equal (h0 : RefRun.rT U = KRun.aT m c) (h1 : RefRun.rS U = KRun.aS m c) (h2 : RefIou.rB U = KRun.aB m c)
    (h3 : RefRun.rL U = KRun.aL m c) (h4 : RefIou.rP U = KRun.aP m c) (hs : ∀ b p k, ∃ r : ℝ, KRun.aS m c b p k = r)
    (hL : ∀ b o, ∃ k : Fin 81, KRun.aL m c b o = BitVec.ofNat 32 k.val) :
    (Cert.KernelIdeal.Gen.W7 m ρ c (Proc.devRef .tc Cert.KernelIdeal.main_v9) : Cert.KernelIdeal.S_.Idx → EReal) ix0
      = (after RefLine.ops U (Proc.devRef .tc Cert.ReferenceIdeal.main_v198) : Cert.ReferenceIdeal.S_.Idx → EReal) ix0 := by
  have ec : RefRun.rc U = KRun.kc m c := by
    funext b p
    show cls (RefIou.rB U b) (RefIou.rP U) (RefRun.rL U b) p = cls (KRun.aB m c b) (KRun.aP m c) (KRun.aL m c b) p
    rw [h2, h3, h4]
  have el : RefRun.rl U = KRun.kl m c := by
    funext b p
    show ce (RefRun.rS U b p) (RefRun.rc U b p) = ce (KRun.aS m c b p) (KRun.kc m c b p)
    rw [h1, ec]
  have en : RefRun.rneg U = KRun.neg m c := by
    funext b p
    show (if RefRun.rc U b p = 0#32 then RefRun.rl U b p else 0) = if KRun.kc m c b p = 0#32 then KRun.kl m c b p else 0
    rw [ec, el]
  have ep : RefRun.rpos U = KRun.npos m c := by
    funext b
    unfold RefRun.rpos KRun.npos
    rw [ec]
  have hk : ∀ b p, ∃ k : Fin 81, KRun.kc m c b p = BitVec.ofNat 32 k.val := fun b p => cls_range _ _ _ (hL b) p
  have hn : ∀ b p, 0 ≤ KRun.neg m c b p := fun b p => by
    unfold KRun.neg
    split
    · obtain ⟨k, e⟩ := hk b p
      unfold KRun.kl
      rw [e]
      exact Soft.ce_nonneg _ (hs b p) k
    · exact le_refl _
  obtain ⟨t, ht, e⟩ := KRun.result m ρ c hn
  obtain ⟨σ, hσ, e'⟩ := RefRun.result U (fun b p k => by rw [h1]; exact hs b p k) (fun b p => by rw [ec]; exact hk b p)
  rw [ec, el, en, ep] at e'
  rw [en] at hσ
  refine e.trans (Eq.trans ?_ e'.symm)
  have eh : (∑ b : Fin 64, ∑ r : Fin 8732, if r.val < 3 * KRun.npos m c b then KRun.neg m c b (σ b r) else 0)
      = ∑ b, KCombine.hard (KRun.neg m c b) (3 * KRun.npos m c b) (t b) :=
    Finset.sum_congr rfl fun b _ => hard_eq _ _ (hσ b) (hn b) _ _ (ht b)
  rw [eh, show RefRun.rB U = KRun.aB m c from h2, show RefRun.rP U = KRun.aP m c from h4, h0]
  rfl

end Cert.Equation

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Original
public import proofs.«01_k».proof.Proof.Gen.Original.Skeleton
public import proofs.«01_k».proof.Proof.Gen.Original.Loops
public import proofs.«01_k».proof.Proof.Gen.Original.Launch
public import proofs.«01_k».proof.Proof.Gen.Original.Points
public import proofs.«01_k».proof.Proof.Gen.Original.Frame
public import proofs.«01_k».proof.Proof.Gen.Pre_scores_finite_labels_in_range
public import proofs.«01_k».proof.Proof.Equation
public import Idealize.ShloMosaic.Adequacy
public import Idealize.ShloMosaic.Init

@[expose] public section

noncomputable section

/-! The certificate's claims, from the programs' runs and the equation of their results. -/

namespace Cert.Proof

open Idealize.ShloMosaic Idealize.ShloMosaic.StableHlo Idealize.SL.Sem

local instance : Cert.KernelIdeal.Facts := Cert.KernelIdeal.Gen.facts
local instance : Cert.ReferenceIdeal.Facts := Cert.ReferenceIdeal.Gen.facts
local instance : Cert.Pre_scores_finite_labels_in_range.Facts := Cert.Pre_scores_finite_labels_in_range.Gen.facts

/-- From equal arguments with real scores and labels in range, the kernel and the reference end with equal results. -/
theorem algebraic : Cert.algebraic_KernelIdeal_ReferenceIdeal_pre_scores_finite_labels_in_range := by
  intro m ρ m' ρ' hp ha
  refine ⟨fun c => Cert.KernelIdeal.Gen.W7 m ρ c (Proc.devRef .tc Cert.KernelIdeal.main_v9), KRun.run m ρ, ?_⟩
  refine θ_run_mono (RefRun.run m' ρ') fun r h c => ⟨(h c).1.trans ?_, (h c).2⟩
  obtain ⟨h0, h1, h2, h3, h4⟩ := ha c
  funext i
  rw [show i = ix0 from funext fun k => k.elim0]
  refine (Equation.equal m ρ c (launchContents m' c) ?_ ?_ ?_ ?_ ?_ ?_ ?_).symm
  · funext b p k
    exact congrFun h0 (ix3 b p k)
  · funext b p k
    exact congrFun h1 (ix3 b p k)
  · funext b o k
    exact congrFun h2 (ix3 b o k)
  · funext b o
    exact congrFun h3 (ix2 b o)
  · funext p k
    exact congrFun h4 (ix2 p k)
  · exact fun b p k => Pre.scores _ _ _ _ _ (hp c) (ix3 b p k)
  · exact fun b o => Pre.labels _ _ _ _ _ (hp c) (ix2 b o)

/-- Every claim of the certificate. -/
theorem claim : Cert.Claim :=
  ⟨Cert.Kernel.Gen.facts, Cert.KernelIdeal.Gen.facts, Cert.ReferenceIdeal.Gen.facts, Cert.Original.Gen.facts,
    Cert.Pre_scores_finite_labels_in_range.Gen.facts,
    fun m ρ _ => Cert.Kernel.Gen.frame m ρ, fun m ρ _ => Cert.KernelIdeal.Gen.frame m ρ, fun m ρ _ => Cert.KernelIdeal.Gen.frame m ρ,
    fun m ρ _ => RefRun.frame m ρ, fun m ρ _ => RefRun.frame m ρ, fun m ρ _ => Cert.Original.Gen.frame m ρ, trivial, algebraic⟩

end Cert.Proof

end
